-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v422) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S160000x128 : Shape := ⟨2, ![160000, 128]⟩
abbrev S160000x4 : Shape := ⟨2, ![160000, 4]⟩
abbrev S_ : Shape := ⟨0, ![]⟩

class Facts : Prop where
  bcast_S_S160000x128 : S_.BroadcastsInDim S160000x128 (![] : Fin 0 → Fin S160000x128.rank)
  reducesTo_S160000x128_S_d0_1 : S160000x128.ReducesTo [0, 1] S_
  h_S_ : 0 < S_.numel
  bcast_S_S160000x4 : S_.BroadcastsInDim S160000x4 (![] : Fin 0 → Fin S160000x4.rank)
  reducesTo_S160000x4_S_d0_1 : S160000x4.ReducesTo [0, 1] S_

variable [Facts]

def fn {F : FTy → Type} [FloatOps F] (main_arg0 : FVec F S160000x128 .f32) (main_arg1 : IVec S160000x4 32) : IVec S_ 1 :=
  let main_v0 : FVec F S160000x128 .f32 := Host.absf main_arg0
  let main_cst : FVec F S_ .f32 := constant S_ .f32 0x7F800000#32
  let main_v1 : FVec F S160000x128 .f32 := broadcastInDim S160000x128 ![] bcast_S_S160000x128 main_cst
  let main_v2 : IVec S160000x128 1 := cmpf .olt main_v0 main_v1
  let main_c : IVec S_ 1 := constantI S_ 1 1#1
  let main_v3 : IVec S_ 1 := (fun x v => Host.reduce IntOp.andi x v reducesTo_S160000x128_S_d0_1 h_S_) main_v2 main_c
  let main_c_0 : IVec S_ 32 := constantI S_ 32 0#32
  let main_v4 : IVec S160000x4 32 := broadcastInDim S160000x4 ![] bcast_S_S160000x4 main_c_0
  let main_v5 : IVec S160000x4 1 := cmpi .sge main_arg1 main_v4
  let main_c_1 : IVec S_ 1 := constantI S_ 1 1#1
  let main_v6 : IVec S_ 1 := (fun x v => Host.reduce IntOp.andi x v reducesTo_S160000x4_S_d0_1 h_S_) main_v5 main_c_1
  let main_v7 : IVec S_ 1 := andi main_v3 main_v6
  let main_c_2 : IVec S_ 32 := constantI S_ 32 100#32
  let main_v8 : IVec S160000x4 32 := broadcastInDim S160000x4 ![] bcast_S_S160000x4 main_c_2
  let main_v9 : IVec S160000x4 1 := cmpi .slt main_arg1 main_v8
  let main_c_3 : IVec S_ 1 := constantI S_ 1 1#1
  let main_v10 : IVec S_ 1 := (fun x v => Host.reduce IntOp.andi x v reducesTo_S160000x4_S_d0_1 h_S_) main_v9 main_c_3
  let main_v11 : IVec S_ 1 := andi main_v7 main_v10
  main_v11
-- ==== Kernel.lean ====
abbrev S160000x128 : Shape := ⟨2, ![160000, 128]⟩
abbrev S160000x4 : Shape := ⟨2, ![160000, 4]⟩
abbrev S512x128 : Shape := ⟨2, ![512, 128]⟩
abbrev S512x1 : Shape := ⟨2, ![512, 1]⟩
abbrev S4x128 : Shape := ⟨2, ![4, 128]⟩
abbrev S4x4 : Shape := ⟨2, ![4, 4]⟩
abbrev S4000x128 : Shape := ⟨2, ![4000, 128]⟩
abbrev S4000x4 : Shape := ⟨2, ![4000, 4]⟩
abbrev S4000x1 : Shape := ⟨2, ![4000, 1]⟩
abbrev S4000x512 : Shape := ⟨2, ![4000, 512]⟩
abbrev S4000x8 : Shape := ⟨2, ![4000, 8]⟩
abbrev S4000x136 : Shape := ⟨2, ![4000, 136]⟩
abbrev S512x136 : Shape := ⟨2, ![512, 136]⟩
abbrev S128x128 : Shape := ⟨2, ![128, 128]⟩
abbrev S4000 : Shape := ⟨1, ![4000]⟩
abbrev S1x128 : Shape := ⟨2, ![1, 128]⟩
abbrev S128 : Shape := ⟨1, ![128]⟩
abbrev S128x1 : Shape := ⟨2, ![128, 1]⟩
abbrev S1x1x128 : Shape := ⟨3, ![1, 1, 128]⟩
abbrev S1 : Shape := ⟨1, ![1]⟩
abbrev S1x1x1 : Shape := ⟨3, ![1, 1, 1]⟩
abbrev S1x128x128 : Shape := ⟨3, ![1, 128, 128]⟩
abbrev S1x1 : Shape := ⟨2, ![1, 1]⟩
abbrev S1x4 : Shape := ⟨2, ![1, 4]⟩
abbrev S1x4x4 : Shape := ⟨3, ![1, 4, 4]⟩
abbrev S160000x4x4 : Shape := ⟨3, ![160000, 4, 4]⟩

abbrev nBuf : Space → Nat
  | .hbm => 8
  | .vmem => 9
  | .smem => 0
  | _ => 0

abbrev bufTy : (tb : Table) → Fin (tcTables nBuf tb) → BufTy
  | .hbm, ⟨0, _⟩ => ⟨S160000x128, .f32⟩
  | .hbm, ⟨1, _⟩ => ⟨S160000x4, .i32⟩
  | .hbm, ⟨2, _⟩ => ⟨S512x128, .f32⟩
  | .hbm, ⟨3, _⟩ => ⟨S512x1, .f32⟩
  | .hbm, ⟨4, _⟩ => ⟨S4x128, .f32⟩
  | .hbm, ⟨5, _⟩ => ⟨S4x4, .f32⟩
  | .hbm, ⟨6, _⟩ => ⟨S1x4x4, .f32⟩
  | .hbm, ⟨7, _⟩ => ⟨S160000x4x4, .f32⟩
  | .local _ .vmem, ⟨0, _⟩ => ⟨S4000x128, .f32⟩
  | .local _ .vmem, ⟨1, _⟩ => ⟨S4000x128, .f32⟩
  | .local _ .vmem, ⟨2, _⟩ => ⟨S4000x4, .i32⟩
  | .local _ .vmem, ⟨3, _⟩ => ⟨S4000x4, .i32⟩
  | .local _ .vmem, ⟨4, _⟩ => ⟨S512x128, .f32⟩
  | .local _ .vmem, ⟨5, _⟩ => ⟨S512x1, .f32⟩
  | .local _ .vmem, ⟨6, _⟩ => ⟨S4x128, .f32⟩
  | .local _ .vmem, ⟨7, _⟩ => ⟨S4x4, .f32⟩
  | .local _ .vmem, ⟨8, _⟩ => ⟨S512x128, .bf16⟩
  | _, _ => ⟨S160000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 40], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_cond5 (i : grid0.Coords) : BitVec 1 :=
  let arg0 : BitVec 32 := BitVec.ofNat 32 (i 0).val
  let c1_i32_8 : BitVec 32 := 1#32
  let v16 : BitVec 1 := Scalar.cmpi .eq arg0 c1_i32_8
  let arg1 : BitVec 32 := BitVec.ofNat 32 (i 1).val
  let c39_i32 : BitVec 32 := 39#32
  let v17 : BitVec 1 := Scalar.cmpi .eq arg1 c39_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S160000x128 : Shape := ⟨2, ![160000, 128]⟩
abbrev S160000x4 : Shape := ⟨2, ![160000, 4]⟩
abbrev S160000x1 : Shape := ⟨2, ![160000, 1]⟩
abbrev S160000 : Shape := ⟨1, ![160000]⟩
abbrev S_ : Shape := ⟨0, ![]⟩
abbrev S100 : Shape := ⟨1, ![100]⟩
abbrev S100x128 : Shape := ⟨2, ![100, 128]⟩
abbrev S100x1 : Shape := ⟨2, ![100, 1]⟩
abbrev S100x1x128 : Shape := ⟨3, ![100, 1, 128]⟩
abbrev S1x100x128 : Shape := ⟨3, ![1, 100, 128]⟩
abbrev S100x100x128 : Shape := ⟨3, ![100, 100, 128]⟩
abbrev S100x100 : Shape := ⟨2, ![100, 100]⟩
abbrev S1x100 : Shape := ⟨2, ![1, 100]⟩
abbrev S1 : Shape := ⟨1, ![1]⟩
abbrev S4 : Shape := ⟨1, ![4]⟩
abbrev S1x4 : Shape := ⟨2, ![1, 4]⟩
abbrev S4x4 : Shape := ⟨2, ![4, 4]⟩
abbrev S1x4x4 : Shape := ⟨3, ![1, 4, 4]⟩
abbrev S160000x4x4 : Shape := ⟨3, ![160000, 4, 4]⟩

abbrev nBuf : Space → Nat
  | .hbm => 721
  | .vmem => 0
  | .smem => 0
  | _ => 0

abbrev hbmTy0_0 (i : Nat) : BufTy := match i % 128 with
  | 0 => ⟨S160000x128, .f32⟩
  | 1 => ⟨S160000x4, .i32⟩
  | 2 => ⟨S160000x1, .i32⟩
  | 3 => ⟨S160000, .i32⟩
  | 4 => ⟨S_, .f32⟩
  | 5 => ⟨S160000, .f32⟩
  | 6 => ⟨S_, .f32⟩
  | 7 => ⟨S100, .f32⟩
  | 8 => ⟨S160000x1, .i32⟩
  | 9 => ⟨S100, .f32⟩
  | 10 => ⟨S_, .f32⟩
  | 11 => ⟨S_, .f32⟩
  | 12 => ⟨S100, .f32⟩
  | 13 => ⟨S100, .f32⟩
  | 14 => ⟨S_, .f32⟩
  | 15 => ⟨S100, .f32⟩
  | 16 => ⟨S100, .f32⟩
  | 17 => ⟨S100, .f32⟩
  | 18 => ⟨S100, .f32⟩
  | 19 => ⟨S_, .f32⟩
  | 20 => ⟨S_, .f32⟩
  | 21 => ⟨S_, .f32⟩
  | 22 => ⟨S_, .f32⟩
  | 23 => ⟨S100x128, .f32⟩
  | 24 => ⟨S160000x1, .i32⟩
  | 25 => ⟨S100x128, .f32⟩
  | 26 => ⟨S_, .f32⟩
  | 27 => ⟨S100, .f32⟩
  | 28 => ⟨S100, .f32⟩
  | 29 => ⟨S100x1, .f32⟩
  | 30 => ⟨S100x128, .f32⟩
  | 31 => ⟨S100x128, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x128, .f32⟩
  | 41 => ⟨S160000x128, .f32⟩
  | 42 => ⟨S160000x128, .f32⟩
  | 43 => ⟨S_, .f32⟩
  | 44 => ⟨S160000, .f32⟩
  | 45 => ⟨S_, .f32⟩
  | 46 => ⟨S160000, .f32⟩
  | 47 => ⟨S160000, .i1⟩
  | 48 => ⟨S_, .f32⟩
  | 49 => ⟨S_, .f32⟩
  | 50 => ⟨S160000, .f32⟩
  | 51 => ⟨S160000, .f32⟩
  | 52 => ⟨S160000, .f32⟩
  | 53 => ⟨S_, .f32⟩
  | 54 => ⟨S_, .f32⟩
  | 55 => ⟨S160000, .f32⟩
  | 56 => ⟨S160000, .f32⟩
  | 57 => ⟨S_, .f32⟩
  | 58 => ⟨S100, .f32⟩
  | 59 => ⟨S160000x1, .i32⟩
  | 60 => ⟨S100, .f32⟩
  | 61 => ⟨S100, .f32⟩
  | 62 => ⟨S_, .f32⟩
  | 63 => ⟨S100, .f32⟩
  | 64 => ⟨S100, .i1⟩
  | 65 => ⟨S100, .i32⟩
  | 66 => ⟨S_, .i32⟩
  | 67 => ⟨S_, .i32⟩
  | 68 => ⟨S_, .i32⟩
  | 69 => ⟨S_, .i1⟩
  | 70 => ⟨S_, .f32⟩
  | 71 => ⟨S_, .f32⟩
  | 72 => ⟨S100, .f32⟩
  | 73 => ⟨S100, .f32⟩
  | 74 => ⟨S_, .f32⟩
  | 75 => ⟨S_, .f32⟩
  | 76 => ⟨S_, .i32⟩
  | 77 => ⟨S_, .i32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S100, .f32⟩
  | 85 => ⟨S100, .i1⟩
  | 86 => ⟨S100x1x128, .f32⟩
  | 87 => ⟨S1x100x128, .f32⟩
  | 88 => ⟨S100x100x128, .f32⟩
  | 89 => ⟨S100x100x128, .f32⟩
  | 90 => ⟨S100x100x128, .f32⟩
  | 91 => ⟨S100x100x128, .f32⟩
  | 92 => ⟨S_, .f32⟩
  | 93 => ⟨S100x100, .f32⟩
  | 94 => ⟨S_, .f32⟩
  | 95 => ⟨S100x100, .f32⟩
  | 96 => ⟨S100x100, .i1⟩
  | 97 => ⟨S_, .f32⟩
  | 98 => ⟨S_, .f32⟩
  | 99 => ⟨S100x100, .f32⟩
  | 100 => ⟨S100x100, .f32⟩
  | 101 => ⟨S100x100, .f32⟩
  | 102 => ⟨S_, .f32⟩
  | 103 => ⟨S_, .f32⟩
  | 104 => ⟨S100x100, .f32⟩
  | 105 => ⟨S100x100, .f32⟩
  | 106 => ⟨S_, .i1⟩
  | 107 => ⟨S100x100, .i1⟩
  | 108 => ⟨S100x100, .i32⟩
  | 109 => ⟨S_, .i32⟩
  | 110 => ⟨S100x100, .i32⟩
  | 111 => ⟨S100x100, .i32⟩
  | 112 => ⟨S100x100, .i32⟩
  | 113 => ⟨S100x100, .i1⟩
  | 114 => ⟨S_, .i1⟩
  | 115 => ⟨S100x100, .i1⟩
  | 116 => ⟨S100x100, .i1⟩
  | 117 => ⟨S100x1, .i1⟩
  | 118 => ⟨S100x100, .i1⟩
  | 119 => ⟨S100x100, .i1⟩
  | 120 => ⟨S1x100, .i1⟩
  | 121 => ⟨S100x100, .i1⟩
  | 122 => ⟨S100x100, .i1⟩
  | 123 => ⟨S100x100, .i32⟩
  | 124 => ⟨S_, .i32⟩
  | 125 => ⟨S_, .i32⟩
  | 126 => ⟨S_, .i32⟩
  | 127 => ⟨S_, .i1⟩
  | _ => ⟨S160000x128, .f32⟩

abbrev hbmTy0_1 (i : Nat) : BufTy := match i % 128 with
  | 0 => ⟨S_, .f32⟩
  | 1 => ⟨S_, .f32⟩
  | 2 => ⟨S100x100, .f32⟩
  | 3 => ⟨S100x100, .f32⟩
  | 4 => ⟨S_, .f32⟩
  | 5 => ⟨S_, .f32⟩
  | 6 => ⟨S_, .i32⟩
  | 7 => ⟨S_, .i32⟩
  | 8 => ⟨S_, .f32⟩
  | 9 => ⟨S_, .f32⟩
  | 10 => ⟨S_, .f32⟩
  | 11 => ⟨S_, .f32⟩
  | 12 => ⟨S_, .f32⟩
  | 13 => ⟨S_, .i32⟩
  | 14 => ⟨S_, .i1⟩
  | 15 => ⟨S_, .f32⟩
  | 16 => ⟨S_, .f32⟩
  | 17 => ⟨S100, .f32⟩
  | 18 => ⟨S100, .f32⟩
  | 19 => ⟨S_, .f32⟩
  | 20 => ⟨S_, .f32⟩
  | 21 => ⟨S_, .f32⟩
  | 22 => ⟨S_, .f32⟩
  | 23 => ⟨S_, .f32⟩
  | 24 => ⟨S_, .i32⟩
  | 25 => ⟨S_, .i1⟩
  | 26 => ⟨S_, .f32⟩
  | 27 => ⟨S_, .f32⟩
  | 28 => ⟨S100x100, .f32⟩
  | 29 => ⟨S100x100, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S100, .i32⟩
  | 37 => ⟨S_, .i32⟩
  | 38 => ⟨S_, .i32⟩
  | 39 => ⟨S_, .i32⟩
  | 40 => ⟨S_, .i1⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S1, .f32⟩
  | 48 => ⟨S1, .f32⟩
  | 49 => ⟨S1, .f32⟩
  | 50 => ⟨S1, .f32⟩
  | 51 => ⟨S4, .f32⟩
  | 52 => ⟨S160000x1, .i32⟩
  | 53 => ⟨S160000, .i32⟩
  | 54 => ⟨S_, .f32⟩
  | 55 => ⟨S160000, .f32⟩
  | 56 => ⟨S_, .f32⟩
  | 57 => ⟨S100, .f32⟩
  | 58 => ⟨S160000x1, .i32⟩
  | 59 => ⟨S100, .f32⟩
  | 60 => ⟨S_, .f32⟩
  | 61 => ⟨S_, .f32⟩
  | 62 => ⟨S100, .f32⟩
  | 63 => ⟨S100, .f32⟩
  | 64 => ⟨S_, .f32⟩
  | 65 => ⟨S100, .f32⟩
  | 66 => ⟨S100, .f32⟩
  | 67 => ⟨S100, .f32⟩
  | 68 => ⟨S100, .f32⟩
  | 69 => ⟨S_, .f32⟩
  | 70 => ⟨S_, .f32⟩
  | 71 => ⟨S_, .f32⟩
  | 72 => ⟨S_, .f32⟩
  | 73 => ⟨S100x128, .f32⟩
  | 74 => ⟨S160000x1, .i32⟩
  | 75 => ⟨S100x128, .f32⟩
  | 76 => ⟨S_, .f32⟩
  | 77 => ⟨S100, .f32⟩
  | 78 => ⟨S100, .f32⟩
  | 79 => ⟨S100x1, .f32⟩
  | 80 => ⟨S100x128, .f32⟩
  | 81 => ⟨S100x128, .f32⟩
  | 82 => ⟨S_, .i32⟩
  | 83 => ⟨S160000, .i32⟩
  | 84 => ⟨S160000, .i1⟩
  | 85 => ⟨S_, .i32⟩
  | 86 => ⟨S160000, .i32⟩
  | 87 => ⟨S160000, .i32⟩
  | 88 => ⟨S160000, .i32⟩
  | 89 => ⟨S160000x1, .i32⟩
  | 90 => ⟨S160000x128, .f32⟩
  | 91 => ⟨S160000x128, .f32⟩
  | 92 => ⟨S160000x128, .f32⟩
  | 93 => ⟨S_, .f32⟩
  | 94 => ⟨S160000, .f32⟩
  | 95 => ⟨S_, .f32⟩
  | 96 => ⟨S160000, .f32⟩
  | 97 => ⟨S160000, .i1⟩
  | 98 => ⟨S_, .f32⟩
  | 99 => ⟨S_, .f32⟩
  | 100 => ⟨S160000, .f32⟩
  | 101 => ⟨S160000, .f32⟩
  | 102 => ⟨S160000, .f32⟩
  | 103 => ⟨S_, .f32⟩
  | 104 => ⟨S_, .f32⟩
  | 105 => ⟨S160000, .f32⟩
  | 106 => ⟨S160000, .f32⟩
  | 107 => ⟨S_, .f32⟩
  | 108 => ⟨S100, .f32⟩
  | 109 => ⟨S160000x1, .i32⟩
  | 110 => ⟨S100, .f32⟩
  | 111 => ⟨S100, .f32⟩
  | 112 => ⟨S_, .f32⟩
  | 113 => ⟨S100, .f32⟩
  | 114 => ⟨S100, .i1⟩
  | 115 => ⟨S100, .i32⟩
  | 116 => ⟨S_, .i32⟩
  | 117 => ⟨S_, .i32⟩
  | 118 => ⟨S_, .i32⟩
  | 119 => ⟨S_, .i1⟩
  | 120 => ⟨S_, .f32⟩
  | 121 => ⟨S_, .f32⟩
  | 122 => ⟨S100, .f32⟩
  | 123 => ⟨S100, .f32⟩
  | 124 => ⟨S_, .f32⟩
  | 125 => ⟨S_, .f32⟩
  | 126 => ⟨S_, .i32⟩
  | 127 => ⟨S_, .i32⟩
  | _ => ⟨S160000x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S100, .f32⟩
  | 7 => ⟨S100, .i1⟩
  | 8 => ⟨S100x1x128, .f32⟩
  | 9 => ⟨S1x100x128, .f32⟩
  | 10 => ⟨S100x100x128, .f32⟩
  | 11 => ⟨S100x100x128, .f32⟩
  | 12 => ⟨S100x100x128, .f32⟩
  | 13 => ⟨S100x100x128, .f32⟩
  | 14 => ⟨S_, .f32⟩
  | 15 => ⟨S100x100, .f32⟩
  | 16 => ⟨S_, .f32⟩
  | 17 => ⟨S100x100, .f32⟩
  | 18 => ⟨S100x100, .i1⟩
  | 19 => ⟨S_, .f32⟩
  | 20 => ⟨S_, .f32⟩
  | 21 => ⟨S100x100, .f32⟩
  | 22 => ⟨S100x100, .f32⟩
  | 23 => ⟨S100x100, .f32⟩
  | 24 => ⟨S_, .f32⟩
  | 25 => ⟨S_, .f32⟩
  | 26 => ⟨S100x100, .f32⟩
  | 27 => ⟨S100x100, .f32⟩
  | 28 => ⟨S_, .i1⟩
  | 29 => ⟨S100x100, .i1⟩
  | 30 => ⟨S100x100, .i32⟩
  | 31 => ⟨S_, .i32⟩
  | 32 => ⟨S100x100, .i32⟩
  | 33 => ⟨S100x100, .i32⟩
  | 34 => ⟨S100x100, .i32⟩
  | 35 => ⟨S100x100, .i1⟩
  | 36 => ⟨S_, .i1⟩
  | 37 => ⟨S100x100, .i1⟩
  | 38 => ⟨S100x100, .i1⟩
  | 39 => ⟨S100x1, .i1⟩
  | 40 => ⟨S100x100, .i1⟩
  | 41 => ⟨S100x100, .i1⟩
  | 42 => ⟨S1x100, .i1⟩
  | 43 => ⟨S100x100, .i1⟩
  | 44 => ⟨S100x100, .i1⟩
  | 45 => ⟨S100x100, .i32⟩
  | 46 => ⟨S_, .i32⟩
  | 47 => ⟨S_, .i32⟩
  | 48 => ⟨S_, .i32⟩
  | 49 => ⟨S_, .i1⟩
  | 50 => ⟨S_, .f32⟩
  | 51 => ⟨S_, .f32⟩
  | 52 => ⟨S100x100, .f32⟩
  | 53 => ⟨S100x100, .f32⟩
  | 54 => ⟨S_, .f32⟩
  | 55 => ⟨S_, .f32⟩
  | 56 => ⟨S_, .i32⟩
  | 57 => ⟨S_, .i32⟩
  | 58 => ⟨S_, .f32⟩
  | 59 => ⟨S_, .f32⟩
  | 60 => ⟨S_, .f32⟩
  | 61 => ⟨S_, .f32⟩
  | 62 => ⟨S_, .f32⟩
  | 63 => ⟨S_, .i32⟩
  | 64 => ⟨S_, .i1⟩
  | 65 => ⟨S_, .f32⟩
  | 66 => ⟨S_, .f32⟩
  | 67 => ⟨S100, .f32⟩
  | 68 => ⟨S100, .f32⟩
  | 69 => ⟨S_, .f32⟩
  | 70 => ⟨S_, .f32⟩
  | 71 => ⟨S_, .f32⟩
  | 72 => ⟨S_, .f32⟩
  | 73 => ⟨S_, .f32⟩
  | 74 => ⟨S_, .i32⟩
  | 75 => ⟨S_, .i1⟩
  | 76 => ⟨S_, .f32⟩
  | 77 => ⟨S_, .f32⟩
  | 78 => ⟨S100x100, .f32⟩
  | 79 => ⟨S100x100, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S100, .i32⟩
  | 87 => ⟨S_, .i32⟩
  | 88 => ⟨S_, .i32⟩
  | 89 => ⟨S_, .i32⟩
  | 90 => ⟨S_, .i1⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1, .f32⟩
  | 98 => ⟨S1, .f32⟩
  | 99 => ⟨S1, .f32⟩
  | 100 => ⟨S1, .f32⟩
  | 101 => ⟨S4, .f32⟩
  | 102 => ⟨S160000x1, .i32⟩
  | 103 => ⟨S160000, .i32⟩
  | 104 => ⟨S_, .f32⟩
  | 105 => ⟨S160000, .f32⟩
  | 106 => ⟨S_, .f32⟩
  | 107 => ⟨S100, .f32⟩
  | 108 => ⟨S160000x1, .i32⟩
  | 109 => ⟨S100, .f32⟩
  | 110 => ⟨S_, .f32⟩
  | 111 => ⟨S_, .f32⟩
  | 112 => ⟨S100, .f32⟩
  | 113 => ⟨S100, .f32⟩
  | 114 => ⟨S_, .f32⟩
  | 115 => ⟨S100, .f32⟩
  | 116 => ⟨S100, .f32⟩
  | 117 => ⟨S100, .f32⟩
  | 118 => ⟨S100, .f32⟩
  | 119 => ⟨S_, .f32⟩
  | 120 => ⟨S_, .f32⟩
  | 121 => ⟨S_, .f32⟩
  | 122 => ⟨S_, .f32⟩
  | 123 => ⟨S100x128, .f32⟩
  | 124 => ⟨S160000x1, .i32⟩
  | 125 => ⟨S100x128, .f32⟩
  | 126 => ⟨S_, .f32⟩
  | 127 => ⟨S100, .f32⟩
  | _ => ⟨S160000x128, .f32⟩

abbrev hbmTy0_3 (i : Nat) : BufTy := match i % 128 with
  | 0 => ⟨S100, .f32⟩
  | 1 => ⟨S100x1, .f32⟩
  | 2 => ⟨S100x128, .f32⟩
  | 3 => ⟨S100x128, .f32⟩
  | 4 => ⟨S_, .i32⟩
  | 5 => ⟨S160000, .i32⟩
  | 6 => ⟨S160000, .i1⟩
  | 7 => ⟨S_, .i32⟩
  | 8 => ⟨S160000, .i32⟩
  | 9 => ⟨S160000, .i32⟩
  | 10 => ⟨S160000, .i32⟩
  | 11 => ⟨S160000x1, .i32⟩
  | 12 => ⟨S160000x128, .f32⟩
  | 13 => ⟨S160000x128, .f32⟩
  | 14 => ⟨S160000x128, .f32⟩
  | 15 => ⟨S_, .f32⟩
  | 16 => ⟨S160000, .f32⟩
  | 17 => ⟨S_, .f32⟩
  | 18 => ⟨S160000, .f32⟩
  | 19 => ⟨S160000, .i1⟩
  | 20 => ⟨S_, .f32⟩
  | 21 => ⟨S_, .f32⟩
  | 22 => ⟨S160000, .f32⟩
  | 23 => ⟨S160000, .f32⟩
  | 24 => ⟨S160000, .f32⟩
  | 25 => ⟨S_, .f32⟩
  | 26 => ⟨S_, .f32⟩
  | 27 => ⟨S160000, .f32⟩
  | 28 => ⟨S160000, .f32⟩
  | 29 => ⟨S_, .f32⟩
  | 30 => ⟨S100, .f32⟩
  | 31 => ⟨S160000x1, .i32⟩
  | 32 => ⟨S100, .f32⟩
  | 33 => ⟨S100, .f32⟩
  | 34 => ⟨S_, .f32⟩
  | 35 => ⟨S100, .f32⟩
  | 36 => ⟨S100, .i1⟩
  | 37 => ⟨S100, .i32⟩
  | 38 => ⟨S_, .i32⟩
  | 39 => ⟨S_, .i32⟩
  | 40 => ⟨S_, .i32⟩
  | 41 => ⟨S_, .i1⟩
  | 42 => ⟨S_, .f32⟩
  | 43 => ⟨S_, .f32⟩
  | 44 => ⟨S100, .f32⟩
  | 45 => ⟨S100, .f32⟩
  | 46 => ⟨S_, .f32⟩
  | 47 => ⟨S_, .f32⟩
  | 48 => ⟨S_, .i32⟩
  | 49 => ⟨S_, .i32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S100, .f32⟩
  | 57 => ⟨S100, .i1⟩
  | 58 => ⟨S100x1x128, .f32⟩
  | 59 => ⟨S1x100x128, .f32⟩
  | 60 => ⟨S100x100x128, .f32⟩
  | 61 => ⟨S100x100x128, .f32⟩
  | 62 => ⟨S100x100x128, .f32⟩
  | 63 => ⟨S100x100x128, .f32⟩
  | 64 => ⟨S_, .f32⟩
  | 65 => ⟨S100x100, .f32⟩
  | 66 => ⟨S_, .f32⟩
  | 67 => ⟨S100x100, .f32⟩
  | 68 => ⟨S100x100, .i1⟩
  | 69 => ⟨S_, .f32⟩
  | 70 => ⟨S_, .f32⟩
  | 71 => ⟨S100x100, .f32⟩
  | 72 => ⟨S100x100, .f32⟩
  | 73 => ⟨S100x100, .f32⟩
  | 74 => ⟨S_, .f32⟩
  | 75 => ⟨S_, .f32⟩
  | 76 => ⟨S100x100, .f32⟩
  | 77 => ⟨S100x100, .f32⟩
  | 78 => ⟨S_, .i1⟩
  | 79 => ⟨S100x100, .i1⟩
  | 80 => ⟨S100x100, .i32⟩
  | 81 => ⟨S_, .i32⟩
  | 82 => ⟨S100x100, .i32⟩
  | 83 => ⟨S100x100, .i32⟩
  | 84 => ⟨S100x100, .i32⟩
  | 85 => ⟨S100x100, .i1⟩
  | 86 => ⟨S_, .i1⟩
  | 87 => ⟨S100x100, .i1⟩
  | 88 => ⟨S100x100, .i1⟩
  | 89 => ⟨S100x1, .i1⟩
  | 90 => ⟨S100x100, .i1⟩
  | 91 => ⟨S100x100, .i1⟩
  | 92 => ⟨S1x100, .i1⟩
  | 93 => ⟨S100x100, .i1⟩
  | 94 => ⟨S100x100, .i1⟩
  | 95 => ⟨S100x100, .i32⟩
  | 96 => ⟨S_, .i32⟩
  | 97 => ⟨S_, .i32⟩
  | 98 => ⟨S_, .i32⟩
  | 99 => ⟨S_, .i1⟩
  | 100 => ⟨S_, .f32⟩
  | 101 => ⟨S_, .f32⟩
  | 102 => ⟨S100x100, .f32⟩
  | 103 => ⟨S100x100, .f32⟩
  | 104 => ⟨S_, .f32⟩
  | 105 => ⟨S_, .f32⟩
  | 106 => ⟨S_, .i32⟩
  | 107 => ⟨S_, .i32⟩
  | 108 => ⟨S_, .f32⟩
  | 109 => ⟨S_, .f32⟩
  | 110 => ⟨S_, .f32⟩
  | 111 => ⟨S_, .f32⟩
  | 112 => ⟨S_, .f32⟩
  | 113 => ⟨S_, .i32⟩
  | 114 => ⟨S_, .i1⟩
  | 115 => ⟨S_, .f32⟩
  | 116 => ⟨S_, .f32⟩
  | 117 => ⟨S100, .f32⟩
  | 118 => ⟨S100, .f32⟩
  | 119 => ⟨S_, .f32⟩
  | 120 => ⟨S_, .f32⟩
  | 121 => ⟨S_, .f32⟩
  | 122 => ⟨S_, .f32⟩
  | 123 => ⟨S_, .f32⟩
  | 124 => ⟨S_, .i32⟩
  | 125 => ⟨S_, .i1⟩
  | 126 => ⟨S_, .f32⟩
  | 127 => ⟨S_, .f32⟩
  | _ => ⟨S160000x128, .f32⟩

abbrev hbmTy0_4 (i : Nat) : BufTy := match i % 128 with
  | 0 => ⟨S100x100, .f32⟩
  | 1 => ⟨S100x100, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S100, .i32⟩
  | 9 => ⟨S_, .i32⟩
  | 10 => ⟨S_, .i32⟩
  | 11 => ⟨S_, .i32⟩
  | 12 => ⟨S_, .i1⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .f32⟩
  | 22 => ⟨S1, .f32⟩
  | 23 => ⟨S4, .f32⟩
  | 24 => ⟨S160000x1, .i32⟩
  | 25 => ⟨S160000, .i32⟩
  | 26 => ⟨S_, .f32⟩
  | 27 => ⟨S160000, .f32⟩
  | 28 => ⟨S_, .f32⟩
  | 29 => ⟨S100, .f32⟩
  | 30 => ⟨S160000x1, .i32⟩
  | 31 => ⟨S100, .f32⟩
  | 32 => ⟨S_, .f32⟩
  | 33 => ⟨S_, .f32⟩
  | 34 => ⟨S100, .f32⟩
  | 35 => ⟨S100, .f32⟩
  | 36 => ⟨S_, .f32⟩
  | 37 => ⟨S100, .f32⟩
  | 38 => ⟨S100, .f32⟩
  | 39 => ⟨S100, .f32⟩
  | 40 => ⟨S100, .f32⟩
  | 41 => ⟨S_, .f32⟩
  | 42 => ⟨S_, .f32⟩
  | 43 => ⟨S_, .f32⟩
  | 44 => ⟨S_, .f32⟩
  | 45 => ⟨S100x128, .f32⟩
  | 46 => ⟨S160000x1, .i32⟩
  | 47 => ⟨S100x128, .f32⟩
  | 48 => ⟨S_, .f32⟩
  | 49 => ⟨S100, .f32⟩
  | 50 => ⟨S100, .f32⟩
  | 51 => ⟨S100x1, .f32⟩
  | 52 => ⟨S100x128, .f32⟩
  | 53 => ⟨S100x128, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x128, .f32⟩
  | 63 => ⟨S160000x128, .f32⟩
  | 64 => ⟨S160000x128, .f32⟩
  | 65 => ⟨S_, .f32⟩
  | 66 => ⟨S160000, .f32⟩
  | 67 => ⟨S_, .f32⟩
  | 68 => ⟨S160000, .f32⟩
  | 69 => ⟨S160000, .i1⟩
  | 70 => ⟨S_, .f32⟩
  | 71 => ⟨S_, .f32⟩
  | 72 => ⟨S160000, .f32⟩
  | 73 => ⟨S160000, .f32⟩
  | 74 => ⟨S160000, .f32⟩
  | 75 => ⟨S_, .f32⟩
  | 76 => ⟨S_, .f32⟩
  | 77 => ⟨S160000, .f32⟩
  | 78 => ⟨S160000, .f32⟩
  | 79 => ⟨S_, .f32⟩
  | 80 => ⟨S100, .f32⟩
  | 81 => ⟨S160000x1, .i32⟩
  | 82 => ⟨S100, .f32⟩
  | 83 => ⟨S100, .f32⟩
  | 84 => ⟨S_, .f32⟩
  | 85 => ⟨S100, .f32⟩
  | 86 => ⟨S100, .i1⟩
  | 87 => ⟨S100, .i32⟩
  | 88 => ⟨S_, .i32⟩
  | 89 => ⟨S_, .i32⟩
  | 90 => ⟨S_, .i32⟩
  | 91 => ⟨S_, .i1⟩
  | 92 => ⟨S_, .f32⟩
  | 93 => ⟨S_, .f32⟩
  | 94 => ⟨S100, .f32⟩
  | 95 => ⟨S100, .f32⟩
  | 96 => ⟨S_, .f32⟩
  | 97 => ⟨S_, .f32⟩
  | 98 => ⟨S_, .i32⟩
  | 99 => ⟨S_, .i32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S100, .f32⟩
  | 107 => ⟨S100, .i1⟩
  | 108 => ⟨S100x1x128, .f32⟩
  | 109 => ⟨S1x100x128, .f32⟩
  | 110 => ⟨S100x100x128, .f32⟩
  | 111 => ⟨S100x100x128, .f32⟩
  | 112 => ⟨S100x100x128, .f32⟩
  | 113 => ⟨S100x100x128, .f32⟩
  | 114 => ⟨S_, .f32⟩
  | 115 => ⟨S100x100, .f32⟩
  | 116 => ⟨S_, .f32⟩
  | 117 => ⟨S100x100, .f32⟩
  | 118 => ⟨S100x100, .i1⟩
  | 119 => ⟨S_, .f32⟩
  | 120 => ⟨S_, .f32⟩
  | 121 => ⟨S100x100, .f32⟩
  | 122 => ⟨S100x100, .f32⟩
  | 123 => ⟨S100x100, .f32⟩
  | 124 => ⟨S_, .f32⟩
  | 125 => ⟨S_, .f32⟩
  | 126 => ⟨S100x100, .f32⟩
  | 127 => ⟨S100x100, .f32⟩
  | _ => ⟨S160000x128, .f32⟩

abbrev hbmTy0_5 (i : Nat) : BufTy := match i % 128 with
  | 0 => ⟨S_, .i1⟩
  | 1 => ⟨S100x100, .i1⟩
  | 2 => ⟨S100x100, .i32⟩
  | 3 => ⟨S_, .i32⟩
  | 4 => ⟨S100x100, .i32⟩
  | 5 => ⟨S100x100, .i32⟩
  | 6 => ⟨S100x100, .i32⟩
  | 7 => ⟨S100x100, .i1⟩
  | 8 => ⟨S_, .i1⟩
  | 9 => ⟨S100x100, .i1⟩
  | 10 => ⟨S100x100, .i1⟩
  | 11 => ⟨S100x1, .i1⟩
  | 12 => ⟨S100x100, .i1⟩
  | 13 => ⟨S100x100, .i1⟩
  | 14 => ⟨S1x100, .i1⟩
  | 15 => ⟨S100x100, .i1⟩
  | 16 => ⟨S100x100, .i1⟩
  | 17 => ⟨S100x100, .i32⟩
  | 18 => ⟨S_, .i32⟩
  | 19 => ⟨S_, .i32⟩
  | 20 => ⟨S_, .i32⟩
  | 21 => ⟨S_, .i1⟩
  | 22 => ⟨S_, .f32⟩
  | 23 => ⟨S_, .f32⟩
  | 24 => ⟨S100x100, .f32⟩
  | 25 => ⟨S100x100, .f32⟩
  | 26 => ⟨S_, .f32⟩
  | 27 => ⟨S_, .f32⟩
  | 28 => ⟨S_, .i32⟩
  | 29 => ⟨S_, .i32⟩
  | 30 => ⟨S_, .f32⟩
  | 31 => ⟨S_, .f32⟩
  | 32 => ⟨S_, .f32⟩
  | 33 => ⟨S_, .f32⟩
  | 34 => ⟨S_, .f32⟩
  | 35 => ⟨S_, .i32⟩
  | 36 => ⟨S_, .i1⟩
  | 37 => ⟨S_, .f32⟩
  | 38 => ⟨S_, .f32⟩
  | 39 => ⟨S100, .f32⟩
  | 40 => ⟨S100, .f32⟩
  | 41 => ⟨S_, .f32⟩
  | 42 => ⟨S_, .f32⟩
  | 43 => ⟨S_, .f32⟩
  | 44 => ⟨S_, .f32⟩
  | 45 => ⟨S_, .f32⟩
  | 46 => ⟨S_, .i32⟩
  | 47 => ⟨S_, .i1⟩
  | 48 => ⟨S_, .f32⟩
  | 49 => ⟨S_, .f32⟩
  | 50 => ⟨S100x100, .f32⟩
  | 51 => ⟨S100x100, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S100, .i32⟩
  | 59 => ⟨S_, .i32⟩
  | 60 => ⟨S_, .i32⟩
  | 61 => ⟨S_, .i32⟩
  | 62 => ⟨S_, .i1⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1, .f32⟩
  | 70 => ⟨S1, .f32⟩
  | 71 => ⟨S1, .f32⟩
  | 72 => ⟨S1, .f32⟩
  | 73 => ⟨S4, .f32⟩
  | 74 => ⟨S1x4, .f32⟩
  | 75 => ⟨S1x4, .f32⟩
  | 76 => ⟨S1x4, .f32⟩
  | 77 => ⟨S1x4, .f32⟩
  | 78 => ⟨S4x4, .f32⟩
  | 79 => ⟨S1x4x4, .f32⟩
  | 80 => ⟨S160000x4x4, .f32⟩
  | _ => ⟨S160000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S160000x128, .f32⟩

abbrev bufTy : (tb : Table) → Fin (tcTables nBuf tb) → BufTy
  | .hbm, ⟨i, _⟩ => hbmTy i
  | _, _ => ⟨S160000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_call0_v0 : Ref sig .tc := ⟨.hbm, 49, rfl⟩
abbrev main_call0_v1 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_call1_v0 : Ref sig .tc := ⟨.hbm, 54, rfl⟩
abbrev main_call1_v1 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_13 : Ref sig .tc := ⟨.hbm, 66, rfl⟩
abbrev main_v45 : Ref sig .tc := ⟨.hbm, 67, rfl⟩
abbrev main_c_14 : Ref sig .tc := ⟨.hbm, 68, rfl⟩
abbrev main_v46 : Ref sig .tc := ⟨.hbm, 69, rfl⟩
abbrev main_cst_15 : Ref sig .tc := ⟨.hbm, 70, rfl⟩
abbrev main_call2_v0 : Ref sig .tc := ⟨.hbm, 71, rfl⟩
abbrev main_call2_v1 : Ref sig .tc := ⟨.hbm, 72, rfl⟩
abbrev main_v47 : Ref sig .tc := ⟨.hbm, 73, rfl⟩
abbrev main_cst_16 : Ref sig .tc := ⟨.hbm, 74, rfl⟩
abbrev main_v48 : Ref sig .tc := ⟨.hbm, 75, rfl⟩
abbrev main_c_17 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_18 : Ref sig .tc := ⟨.hbm, 80, rfl⟩
abbrev main_call3_v0 : Ref sig .tc := ⟨.hbm, 81, rfl⟩
abbrev main_v52 : Ref sig .tc := ⟨.hbm, 82, rfl⟩
abbrev main_cst_19 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_20 : Ref sig .tc := ⟨.hbm, 92, rfl⟩
abbrev main_v61 : Ref sig .tc := ⟨.hbm, 93, rfl⟩
abbrev main_cst_21 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_call4_v0 : Ref sig .tc := ⟨.hbm, 98, rfl⟩
abbrev main_call4_v1 : Ref sig .tc := ⟨.hbm, 99, rfl⟩
abbrev main_v64 : Ref sig .tc := ⟨.hbm, 100, rfl⟩
abbrev main_v65 : Ref sig .tc := ⟨.hbm, 101, rfl⟩
abbrev main_cst_23 : Ref sig .tc := ⟨.hbm, 102, rfl⟩
abbrev main_call5_v0 : Ref sig .tc := ⟨.hbm, 103, rfl⟩
abbrev main_call5_v1 : Ref sig .tc := ⟨.hbm, 104, rfl⟩
abbrev main_v66 : Ref sig .tc := ⟨.hbm, 105, rfl⟩
abbrev main_c_24 : Ref sig .tc := ⟨.hbm, 106, rfl⟩
abbrev main_v67 : Ref sig .tc := ⟨.hbm, 107, rfl⟩
abbrev main_call6_v0 : Ref sig .tc := ⟨.hbm, 108, rfl⟩
abbrev main_call6_c : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_c_0 : Ref sig .tc := ⟨.hbm, 114, rfl⟩
abbrev main_call6_v5 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_25 : Ref sig .tc := ⟨.hbm, 124, rfl⟩
abbrev main_v76 : Ref sig .tc := ⟨.hbm, 125, rfl⟩
abbrev main_c_26 : Ref sig .tc := ⟨.hbm, 126, rfl⟩
abbrev main_v77 : Ref sig .tc := ⟨.hbm, 127, rfl⟩
abbrev main_cst_27 : Ref sig .tc := ⟨.hbm, 128, rfl⟩
abbrev main_call7_v0 : Ref sig .tc := ⟨.hbm, 129, rfl⟩
abbrev main_call7_v1 : Ref sig .tc := ⟨.hbm, 130, rfl⟩
abbrev main_v78 : Ref sig .tc := ⟨.hbm, 131, rfl⟩
abbrev main_cst_28 : Ref sig .tc := ⟨.hbm, 132, rfl⟩
abbrev main_v79 : Ref sig .tc := ⟨.hbm, 133, rfl⟩
abbrev main_c_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_call8_v0 : Ref sig .tc := ⟨.hbm, 139, rfl⟩
abbrev main_v83 : Ref sig .tc := ⟨.hbm, 140, rfl⟩
abbrev main_c_31 : Ref sig .tc := ⟨.hbm, 141, rfl⟩
abbrev main_v84 : Ref sig .tc := ⟨.hbm, 142, rfl⟩
abbrev main_cst_32 : Ref sig .tc := ⟨.hbm, 143, rfl⟩
abbrev main_call9_v0 : Ref sig .tc := ⟨.hbm, 144, rfl⟩
abbrev main_call9_v1 : Ref sig .tc := ⟨.hbm, 145, rfl⟩
abbrev main_v85 : Ref sig .tc := ⟨.hbm, 146, rfl⟩
abbrev main_cst_33 : Ref sig .tc := ⟨.hbm, 147, rfl⟩
abbrev main_v86 : Ref sig .tc := ⟨.hbm, 148, rfl⟩
abbrev main_cst_34 : Ref sig .tc := ⟨.hbm, 149, rfl⟩
abbrev main_call10_v0 : Ref sig .tc := ⟨.hbm, 150, rfl⟩
abbrev main_v87 : Ref sig .tc := ⟨.hbm, 151, rfl⟩
abbrev main_c_35 : Ref sig .tc := ⟨.hbm, 152, rfl⟩
abbrev main_v88 : Ref sig .tc := ⟨.hbm, 153, rfl⟩
abbrev main_cst_36 : Ref sig .tc := ⟨.hbm, 154, rfl⟩
abbrev main_call11_v0 : Ref sig .tc := ⟨.hbm, 155, rfl⟩
abbrev main_call11_v1 : Ref sig .tc := ⟨.hbm, 156, rfl⟩
abbrev main_v89 : Ref sig .tc := ⟨.hbm, 157, rfl⟩
abbrev main_cst_37 : Ref sig .tc := ⟨.hbm, 158, rfl⟩
abbrev main_v90 : Ref sig .tc := ⟨.hbm, 159, rfl⟩
abbrev main_cst_38 : Ref sig .tc := ⟨.hbm, 160, rfl⟩
abbrev main_call12_v0 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_c_39 : Ref sig .tc := ⟨.hbm, 165, rfl⟩
abbrev main_v94 : Ref sig .tc := ⟨.hbm, 166, rfl⟩
abbrev main_c_40 : Ref sig .tc := ⟨.hbm, 167, rfl⟩
abbrev main_v95 : Ref sig .tc := ⟨.hbm, 168, rfl⟩
abbrev main_cst_41 : Ref sig .tc := ⟨.hbm, 169, rfl⟩
abbrev main_v96 : Ref sig .tc := ⟨.hbm, 170, rfl⟩
abbrev main_cst_42 : Ref sig .tc := ⟨.hbm, 171, rfl⟩
abbrev main_v97 : Ref sig .tc := ⟨.hbm, 172, rfl⟩
abbrev main_cst_43 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_cst_44 : Ref sig .tc := ⟨.hbm, 182, rfl⟩
abbrev main_v106 : Ref sig .tc := ⟨.hbm, 183, rfl⟩
abbrev main_cst_45 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_46 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_cst_47 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_cst_48 : Ref sig .tc := ⟨.hbm, 197, rfl⟩
abbrev main_v117 : Ref sig .tc := ⟨.hbm, 198, rfl⟩
abbrev main_v118 : Ref sig .tc := ⟨.hbm, 199, rfl⟩
abbrev main_cst_49 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_cst_50 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_c_51 : Ref sig .tc := ⟨.hbm, 210, rfl⟩
abbrev main_v127 : Ref sig .tc := ⟨.hbm, 211, rfl⟩
abbrev main_v128 : Ref sig .tc := ⟨.hbm, 212, rfl⟩
abbrev main_c_52 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_cst_53 : Ref sig .tc := ⟨.hbm, 221, rfl⟩
abbrev main_v136 : Ref sig .tc := ⟨.hbm, 222, rfl⟩
abbrev main_cst_54 : Ref sig .tc := ⟨.hbm, 223, rfl⟩
abbrev main_v137 : Ref sig .tc := ⟨.hbm, 224, rfl⟩
abbrev main_v138 : Ref sig .tc := ⟨.hbm, 225, rfl⟩
abbrev main_cst_55 : Ref sig .tc := ⟨.hbm, 226, rfl⟩
abbrev main_call16_v0 : Ref sig .tc := ⟨.hbm, 227, rfl⟩
abbrev main_call16_v1 : Ref sig .tc := ⟨.hbm, 228, rfl⟩
abbrev main_v139 : Ref sig .tc := ⟨.hbm, 229, rfl⟩
abbrev main_v140 : Ref sig .tc := ⟨.hbm, 230, rfl⟩
abbrev main_cst_56 : Ref sig .tc := ⟨.hbm, 231, rfl⟩
abbrev main_call17_v0 : Ref sig .tc := ⟨.hbm, 232, rfl⟩
abbrev main_call17_v1 : Ref sig .tc := ⟨.hbm, 233, rfl⟩
abbrev main_v141 : Ref sig .tc := ⟨.hbm, 234, rfl⟩
abbrev main_cst_57 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_cst_58 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_c_59 : Ref sig .tc := ⟨.hbm, 244, rfl⟩
abbrev main_v149 : Ref sig .tc := ⟨.hbm, 245, rfl⟩
abbrev main_c_60 : Ref sig .tc := ⟨.hbm, 246, rfl⟩
abbrev main_v150 : Ref sig .tc := ⟨.hbm, 247, rfl⟩
abbrev main_cst_61 : Ref sig .tc := ⟨.hbm, 248, rfl⟩
abbrev main_call18_v0 : Ref sig .tc := ⟨.hbm, 249, rfl⟩
abbrev main_call18_v1 : Ref sig .tc := ⟨.hbm, 250, rfl⟩
abbrev main_v151 : Ref sig .tc := ⟨.hbm, 251, rfl⟩
abbrev main_cst_62 : Ref sig .tc := ⟨.hbm, 252, rfl⟩
abbrev main_v152 : Ref sig .tc := ⟨.hbm, 253, rfl⟩
abbrev main_c_63 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_cst_64 : Ref sig .tc := ⟨.hbm, 258, rfl⟩
abbrev main_call19_v0 : Ref sig .tc := ⟨.hbm, 259, rfl⟩
abbrev main_v156 : Ref sig .tc := ⟨.hbm, 260, rfl⟩
abbrev main_cst_65 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_cst_66 : Ref sig .tc := ⟨.hbm, 270, rfl⟩
abbrev main_v165 : Ref sig .tc := ⟨.hbm, 271, rfl⟩
abbrev main_cst_67 : Ref sig .tc := ⟨.hbm, 272, rfl⟩
abbrev main_v166 : Ref sig .tc := ⟨.hbm, 273, rfl⟩
abbrev main_v167 : Ref sig .tc := ⟨.hbm, 274, rfl⟩
abbrev main_cst_68 : Ref sig .tc := ⟨.hbm, 275, rfl⟩
abbrev main_call20_v0 : Ref sig .tc := ⟨.hbm, 276, rfl⟩
abbrev main_call20_v1 : Ref sig .tc := ⟨.hbm, 277, rfl⟩
abbrev main_v168 : Ref sig .tc := ⟨.hbm, 278, rfl⟩
abbrev main_v169 : Ref sig .tc := ⟨.hbm, 279, rfl⟩
abbrev main_cst_69 : Ref sig .tc := ⟨.hbm, 280, rfl⟩
abbrev main_call21_v0 : Ref sig .tc := ⟨.hbm, 281, rfl⟩
abbrev main_call21_v1 : Ref sig .tc := ⟨.hbm, 282, rfl⟩
abbrev main_v170 : Ref sig .tc := ⟨.hbm, 283, rfl⟩
abbrev main_c_70 : Ref sig .tc := ⟨.hbm, 284, rfl⟩
abbrev main_v171 : Ref sig .tc := ⟨.hbm, 285, rfl⟩
abbrev main_call22_v0 : Ref sig .tc := ⟨.hbm, 286, rfl⟩
abbrev main_call22_c : Ref sig .tc := ⟨.hbm, 287, rfl⟩
abbrev main_call22_v1 : Ref sig .tc := ⟨.hbm, 288, rfl⟩
abbrev main_call22_v2 : Ref sig .tc := ⟨.hbm, 289, rfl⟩
abbrev main_call22_v3 : Ref sig .tc := ⟨.hbm, 290, rfl⟩
abbrev main_call22_v4 : Ref sig .tc := ⟨.hbm, 291, rfl⟩
abbrev main_call22_c_0 : Ref sig .tc := ⟨.hbm, 292, rfl⟩
abbrev main_call22_v5 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_c_71 : Ref sig .tc := ⟨.hbm, 302, rfl⟩
abbrev main_v180 : Ref sig .tc := ⟨.hbm, 303, rfl⟩
abbrev main_c_72 : Ref sig .tc := ⟨.hbm, 304, rfl⟩
abbrev main_v181 : Ref sig .tc := ⟨.hbm, 305, rfl⟩
abbrev main_cst_73 : Ref sig .tc := ⟨.hbm, 306, rfl⟩
abbrev main_call23_v0 : Ref sig .tc := ⟨.hbm, 307, rfl⟩
abbrev main_call23_v1 : Ref sig .tc := ⟨.hbm, 308, rfl⟩
abbrev main_v182 : Ref sig .tc := ⟨.hbm, 309, rfl⟩
abbrev main_cst_74 : Ref sig .tc := ⟨.hbm, 310, rfl⟩
abbrev main_v183 : Ref sig .tc := ⟨.hbm, 311, rfl⟩
abbrev main_c_75 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_cst_76 : Ref sig .tc := ⟨.hbm, 316, rfl⟩
abbrev main_call24_v0 : Ref sig .tc := ⟨.hbm, 317, rfl⟩
abbrev main_v187 : Ref sig .tc := ⟨.hbm, 318, rfl⟩
abbrev main_c_77 : Ref sig .tc := ⟨.hbm, 319, rfl⟩
abbrev main_v188 : Ref sig .tc := ⟨.hbm, 320, rfl⟩
abbrev main_cst_78 : Ref sig .tc := ⟨.hbm, 321, rfl⟩
abbrev main_call25_v0 : Ref sig .tc := ⟨.hbm, 322, rfl⟩
abbrev main_call25_v1 : Ref sig .tc := ⟨.hbm, 323, rfl⟩
abbrev main_v189 : Ref sig .tc := ⟨.hbm, 324, rfl⟩
abbrev main_cst_79 : Ref sig .tc := ⟨.hbm, 325, rfl⟩
abbrev main_v190 : Ref sig .tc := ⟨.hbm, 326, rfl⟩
abbrev main_cst_80 : Ref sig .tc := ⟨.hbm, 327, rfl⟩
abbrev main_call26_v0 : Ref sig .tc := ⟨.hbm, 328, rfl⟩
abbrev main_v191 : Ref sig .tc := ⟨.hbm, 329, rfl⟩
abbrev main_c_81 : Ref sig .tc := ⟨.hbm, 330, rfl⟩
abbrev main_v192 : Ref sig .tc := ⟨.hbm, 331, rfl⟩
abbrev main_cst_82 : Ref sig .tc := ⟨.hbm, 332, rfl⟩
abbrev main_call27_v0 : Ref sig .tc := ⟨.hbm, 333, rfl⟩
abbrev main_call27_v1 : Ref sig .tc := ⟨.hbm, 334, rfl⟩
abbrev main_v193 : Ref sig .tc := ⟨.hbm, 335, rfl⟩
abbrev main_cst_83 : Ref sig .tc := ⟨.hbm, 336, rfl⟩
abbrev main_v194 : Ref sig .tc := ⟨.hbm, 337, rfl⟩
abbrev main_cst_84 : Ref sig .tc := ⟨.hbm, 338, rfl⟩
abbrev main_call28_v0 : Ref sig .tc := ⟨.hbm, 339, rfl⟩
abbrev main_v195 : Ref sig .tc := ⟨.hbm, 340, rfl⟩
abbrev main_v196 : Ref sig .tc := ⟨.hbm, 341, rfl⟩
abbrev main_v197 : Ref sig .tc := ⟨.hbm, 342, rfl⟩
abbrev main_c_85 : Ref sig .tc := ⟨.hbm, 343, rfl⟩
abbrev main_v198 : Ref sig .tc := ⟨.hbm, 344, rfl⟩
abbrev main_c_86 : Ref sig .tc := ⟨.hbm, 345, rfl⟩
abbrev main_v199 : Ref sig .tc := ⟨.hbm, 346, rfl⟩
abbrev main_cst_87 : Ref sig .tc := ⟨.hbm, 347, rfl⟩
abbrev main_v200 : Ref sig .tc := ⟨.hbm, 348, rfl⟩
abbrev main_cst_88 : Ref sig .tc := ⟨.hbm, 349, rfl⟩
abbrev main_v201 : Ref sig .tc := ⟨.hbm, 350, rfl⟩
abbrev main_cst_89 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_cst_90 : Ref sig .tc := ⟨.hbm, 360, rfl⟩
abbrev main_v210 : Ref sig .tc := ⟨.hbm, 361, rfl⟩
abbrev main_cst_91 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_92 : Ref sig .tc := ⟨.hbm, 366, rfl⟩
abbrev main_v214 : Ref sig .tc := ⟨.hbm, 367, rfl⟩
abbrev main_v215 : Ref sig .tc := ⟨.hbm, 368, rfl⟩
abbrev main_v216 : Ref sig .tc := ⟨.hbm, 369, rfl⟩
abbrev main_cst_93 : Ref sig .tc := ⟨.hbm, 370, rfl⟩
abbrev main_v217 : Ref sig .tc := ⟨.hbm, 371, rfl⟩
abbrev main_v218 : Ref sig .tc := ⟨.hbm, 372, rfl⟩
abbrev main_v219 : Ref sig .tc := ⟨.hbm, 373, rfl⟩
abbrev main_v220 : Ref sig .tc := ⟨.hbm, 374, rfl⟩
abbrev main_cst_94 : Ref sig .tc := ⟨.hbm, 375, rfl⟩
abbrev main_v221 : Ref sig .tc := ⟨.hbm, 376, rfl⟩
abbrev main_v222 : Ref sig .tc := ⟨.hbm, 377, rfl⟩
abbrev main_cst_95 : Ref sig .tc := ⟨.hbm, 378, rfl⟩
abbrev main_v223 : Ref sig .tc := ⟨.hbm, 379, rfl⟩
abbrev main_v224 : Ref sig .tc := ⟨.hbm, 380, rfl⟩
abbrev main_v225 : Ref sig .tc := ⟨.hbm, 381, rfl⟩
abbrev main_cst_96 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_c_97 : Ref sig .tc := ⟨.hbm, 388, rfl⟩
abbrev main_v231 : Ref sig .tc := ⟨.hbm, 389, rfl⟩
abbrev main_v232 : Ref sig .tc := ⟨.hbm, 390, rfl⟩
abbrev main_c_98 : Ref sig .tc := ⟨.hbm, 391, rfl⟩
abbrev main_v233 : Ref sig .tc := ⟨.hbm, 392, rfl⟩
abbrev main_v234 : Ref sig .tc := ⟨.hbm, 393, rfl⟩
abbrev main_v235 : Ref sig .tc := ⟨.hbm, 394, rfl⟩
abbrev main_v236 : Ref sig .tc := ⟨.hbm, 395, rfl⟩
abbrev main_v237 : Ref sig .tc := ⟨.hbm, 396, rfl⟩
abbrev main_v238 : Ref sig .tc := ⟨.hbm, 397, rfl⟩
abbrev main_v239 : Ref sig .tc := ⟨.hbm, 398, rfl⟩
abbrev main_cst_99 : Ref sig .tc := ⟨.hbm, 399, rfl⟩
abbrev main_v240 : Ref sig .tc := ⟨.hbm, 400, rfl⟩
abbrev main_cst_100 : Ref sig .tc := ⟨.hbm, 401, rfl⟩
abbrev main_v241 : Ref sig .tc := ⟨.hbm, 402, rfl⟩
abbrev main_v242 : Ref sig .tc := ⟨.hbm, 403, rfl⟩
abbrev main_cst_101 : Ref sig .tc := ⟨.hbm, 404, rfl⟩
abbrev main_call32_v0 : Ref sig .tc := ⟨.hbm, 405, rfl⟩
abbrev main_call32_v1 : Ref sig .tc := ⟨.hbm, 406, rfl⟩
abbrev main_v243 : Ref sig .tc := ⟨.hbm, 407, rfl⟩
abbrev main_v244 : Ref sig .tc := ⟨.hbm, 408, rfl⟩
abbrev main_cst_102 : Ref sig .tc := ⟨.hbm, 409, rfl⟩
abbrev main_call33_v0 : Ref sig .tc := ⟨.hbm, 410, rfl⟩
abbrev main_call33_v1 : Ref sig .tc := ⟨.hbm, 411, rfl⟩
abbrev main_v245 : Ref sig .tc := ⟨.hbm, 412, rfl⟩
abbrev main_cst_103 : Ref sig .tc := ⟨.hbm, 413, rfl⟩
abbrev main_v246 : Ref sig .tc := ⟨.hbm, 414, rfl⟩
abbrev main_v247 : Ref sig .tc := ⟨.hbm, 415, rfl⟩
abbrev main_v248 : Ref sig .tc := ⟨.hbm, 416, rfl⟩
abbrev main_v249 : Ref sig .tc := ⟨.hbm, 417, rfl⟩
abbrev main_cst_104 : Ref sig .tc := ⟨.hbm, 418, rfl⟩
abbrev main_v250 : Ref sig .tc := ⟨.hbm, 419, rfl⟩
abbrev main_v251 : Ref sig .tc := ⟨.hbm, 420, rfl⟩
abbrev main_v252 : Ref sig .tc := ⟨.hbm, 421, rfl⟩
abbrev main_c_105 : Ref sig .tc := ⟨.hbm, 422, rfl⟩
abbrev main_v253 : Ref sig .tc := ⟨.hbm, 423, rfl⟩
abbrev main_c_106 : Ref sig .tc := ⟨.hbm, 424, rfl⟩
abbrev main_v254 : Ref sig .tc := ⟨.hbm, 425, rfl⟩
abbrev main_cst_107 : Ref sig .tc := ⟨.hbm, 426, rfl⟩
abbrev main_call34_v0 : Ref sig .tc := ⟨.hbm, 427, rfl⟩
abbrev main_call34_v1 : Ref sig .tc := ⟨.hbm, 428, rfl⟩
abbrev main_v255 : Ref sig .tc := ⟨.hbm, 429, rfl⟩
abbrev main_cst_108 : Ref sig .tc := ⟨.hbm, 430, rfl⟩
abbrev main_v256 : Ref sig .tc := ⟨.hbm, 431, rfl⟩
abbrev main_c_109 : Ref sig .tc := ⟨.hbm, 432, rfl⟩
abbrev main_v257 : Ref sig .tc := ⟨.hbm, 433, rfl⟩
abbrev main_v258 : Ref sig .tc := ⟨.hbm, 434, rfl⟩
abbrev main_v259 : Ref sig .tc := ⟨.hbm, 435, rfl⟩
abbrev main_cst_110 : Ref sig .tc := ⟨.hbm, 436, rfl⟩
abbrev main_call35_v0 : Ref sig .tc := ⟨.hbm, 437, rfl⟩
abbrev main_v260 : Ref sig .tc := ⟨.hbm, 438, rfl⟩
abbrev main_cst_111 : Ref sig .tc := ⟨.hbm, 439, rfl⟩
abbrev main_v261 : Ref sig .tc := ⟨.hbm, 440, rfl⟩
abbrev main_v262 : Ref sig .tc := ⟨.hbm, 441, rfl⟩
abbrev main_v263 : Ref sig .tc := ⟨.hbm, 442, rfl⟩
abbrev main_v264 : Ref sig .tc := ⟨.hbm, 443, rfl⟩
abbrev main_v265 : Ref sig .tc := ⟨.hbm, 444, rfl⟩
abbrev main_v266 : Ref sig .tc := ⟨.hbm, 445, rfl⟩
abbrev main_v267 : Ref sig .tc := ⟨.hbm, 446, rfl⟩
abbrev main_v268 : Ref sig .tc := ⟨.hbm, 447, rfl⟩
abbrev main_cst_112 : Ref sig .tc := ⟨.hbm, 448, rfl⟩
abbrev main_v269 : Ref sig .tc := ⟨.hbm, 449, rfl⟩
abbrev main_cst_113 : Ref sig .tc := ⟨.hbm, 450, rfl⟩
abbrev main_v270 : Ref sig .tc := ⟨.hbm, 451, rfl⟩
abbrev main_v271 : Ref sig .tc := ⟨.hbm, 452, rfl⟩
abbrev main_cst_114 : Ref sig .tc := ⟨.hbm, 453, rfl⟩
abbrev main_call36_v0 : Ref sig .tc := ⟨.hbm, 454, rfl⟩
abbrev main_call36_v1 : Ref sig .tc := ⟨.hbm, 455, rfl⟩
abbrev main_v272 : Ref sig .tc := ⟨.hbm, 456, rfl⟩
abbrev main_v273 : Ref sig .tc := ⟨.hbm, 457, rfl⟩
abbrev main_cst_115 : Ref sig .tc := ⟨.hbm, 458, rfl⟩
abbrev main_call37_v0 : Ref sig .tc := ⟨.hbm, 459, rfl⟩
abbrev main_call37_v1 : Ref sig .tc := ⟨.hbm, 460, rfl⟩
abbrev main_v274 : Ref sig .tc := ⟨.hbm, 461, rfl⟩
abbrev main_c_116 : Ref sig .tc := ⟨.hbm, 462, rfl⟩
abbrev main_v275 : Ref sig .tc := ⟨.hbm, 463, rfl⟩
abbrev main_call38_v0 : Ref sig .tc := ⟨.hbm, 464, rfl⟩
abbrev main_call38_c : Ref sig .tc := ⟨.hbm, 465, rfl⟩
abbrev main_call38_v1 : Ref sig .tc := ⟨.hbm, 466, rfl⟩
abbrev main_call38_v2 : Ref sig .tc := ⟨.hbm, 467, rfl⟩
abbrev main_call38_v3 : Ref sig .tc := ⟨.hbm, 468, rfl⟩
abbrev main_call38_v4 : Ref sig .tc := ⟨.hbm, 469, rfl⟩
abbrev main_call38_c_0 : Ref sig .tc := ⟨.hbm, 470, rfl⟩
abbrev main_call38_v5 : Ref sig .tc := ⟨.hbm, 471, rfl⟩
abbrev main_v276 : Ref sig .tc := ⟨.hbm, 472, rfl⟩
abbrev main_v277 : Ref sig .tc := ⟨.hbm, 473, rfl⟩
abbrev main_v278 : Ref sig .tc := ⟨.hbm, 474, rfl⟩
abbrev main_v279 : Ref sig .tc := ⟨.hbm, 475, rfl⟩
abbrev main_v280 : Ref sig .tc := ⟨.hbm, 476, rfl⟩
abbrev main_v281 : Ref sig .tc := ⟨.hbm, 477, rfl⟩
abbrev main_v282 : Ref sig .tc := ⟨.hbm, 478, rfl⟩
abbrev main_v283 : Ref sig .tc := ⟨.hbm, 479, rfl⟩
abbrev main_c_117 : Ref sig .tc := ⟨.hbm, 480, rfl⟩
abbrev main_v284 : Ref sig .tc := ⟨.hbm, 481, rfl⟩
abbrev main_c_118 : Ref sig .tc := ⟨.hbm, 482, rfl⟩
abbrev main_v285 : Ref sig .tc := ⟨.hbm, 483, rfl⟩
abbrev main_cst_119 : Ref sig .tc := ⟨.hbm, 484, rfl⟩
abbrev main_call39_v0 : Ref sig .tc := ⟨.hbm, 485, rfl⟩
abbrev main_call39_v1 : Ref sig .tc := ⟨.hbm, 486, rfl⟩
abbrev main_v286 : Ref sig .tc := ⟨.hbm, 487, rfl⟩
abbrev main_cst_120 : Ref sig .tc := ⟨.hbm, 488, rfl⟩
abbrev main_v287 : Ref sig .tc := ⟨.hbm, 489, rfl⟩
abbrev main_c_121 : Ref sig .tc := ⟨.hbm, 490, rfl⟩
abbrev main_v288 : Ref sig .tc := ⟨.hbm, 491, rfl⟩
abbrev main_v289 : Ref sig .tc := ⟨.hbm, 492, rfl⟩
abbrev main_v290 : Ref sig .tc := ⟨.hbm, 493, rfl⟩
abbrev main_cst_122 : Ref sig .tc := ⟨.hbm, 494, rfl⟩
abbrev main_call40_v0 : Ref sig .tc := ⟨.hbm, 495, rfl⟩
abbrev main_v291 : Ref sig .tc := ⟨.hbm, 496, rfl⟩
abbrev main_c_123 : Ref sig .tc := ⟨.hbm, 497, rfl⟩
abbrev main_v292 : Ref sig .tc := ⟨.hbm, 498, rfl⟩
abbrev main_cst_124 : Ref sig .tc := ⟨.hbm, 499, rfl⟩
abbrev main_call41_v0 : Ref sig .tc := ⟨.hbm, 500, rfl⟩
abbrev main_call41_v1 : Ref sig .tc := ⟨.hbm, 501, rfl⟩
abbrev main_v293 : Ref sig .tc := ⟨.hbm, 502, rfl⟩
abbrev main_cst_125 : Ref sig .tc := ⟨.hbm, 503, rfl⟩
abbrev main_v294 : Ref sig .tc := ⟨.hbm, 504, rfl⟩
abbrev main_cst_126 : Ref sig .tc := ⟨.hbm, 505, rfl⟩
abbrev main_call42_v0 : Ref sig .tc := ⟨.hbm, 506, rfl⟩
abbrev main_v295 : Ref sig .tc := ⟨.hbm, 507, rfl⟩
abbrev main_c_127 : Ref sig .tc := ⟨.hbm, 508, rfl⟩
abbrev main_v296 : Ref sig .tc := ⟨.hbm, 509, rfl⟩
abbrev main_cst_128 : Ref sig .tc := ⟨.hbm, 510, rfl⟩
abbrev main_call43_v0 : Ref sig .tc := ⟨.hbm, 511, rfl⟩
abbrev main_call43_v1 : Ref sig .tc := ⟨.hbm, 512, rfl⟩
abbrev main_v297 : Ref sig .tc := ⟨.hbm, 513, rfl⟩
abbrev main_cst_129 : Ref sig .tc := ⟨.hbm, 514, rfl⟩
abbrev main_v298 : Ref sig .tc := ⟨.hbm, 515, rfl⟩
abbrev main_cst_130 : Ref sig .tc := ⟨.hbm, 516, rfl⟩
abbrev main_call44_v0 : Ref sig .tc := ⟨.hbm, 517, rfl⟩
abbrev main_v299 : Ref sig .tc := ⟨.hbm, 518, rfl⟩
abbrev main_v300 : Ref sig .tc := ⟨.hbm, 519, rfl⟩
abbrev main_v301 : Ref sig .tc := ⟨.hbm, 520, rfl⟩
abbrev main_c_131 : Ref sig .tc := ⟨.hbm, 521, rfl⟩
abbrev main_v302 : Ref sig .tc := ⟨.hbm, 522, rfl⟩
abbrev main_c_132 : Ref sig .tc := ⟨.hbm, 523, rfl⟩
abbrev main_v303 : Ref sig .tc := ⟨.hbm, 524, rfl⟩
abbrev main_cst_133 : Ref sig .tc := ⟨.hbm, 525, rfl⟩
abbrev main_v304 : Ref sig .tc := ⟨.hbm, 526, rfl⟩
abbrev main_cst_134 : Ref sig .tc := ⟨.hbm, 527, rfl⟩
abbrev main_v305 : Ref sig .tc := ⟨.hbm, 528, rfl⟩
abbrev main_cst_135 : Ref sig .tc := ⟨.hbm, 529, rfl⟩
abbrev main_v306 : Ref sig .tc := ⟨.hbm, 530, rfl⟩
abbrev main_v307 : Ref sig .tc := ⟨.hbm, 531, rfl⟩
abbrev main_v308 : Ref sig .tc := ⟨.hbm, 532, rfl⟩
abbrev main_v309 : Ref sig .tc := ⟨.hbm, 533, rfl⟩
abbrev main_v310 : Ref sig .tc := ⟨.hbm, 534, rfl⟩
abbrev main_v311 : Ref sig .tc := ⟨.hbm, 535, rfl⟩
abbrev main_v312 : Ref sig .tc := ⟨.hbm, 536, rfl⟩
abbrev main_v313 : Ref sig .tc := ⟨.hbm, 537, rfl⟩
abbrev main_cst_136 : Ref sig .tc := ⟨.hbm, 538, rfl⟩
abbrev main_v314 : Ref sig .tc := ⟨.hbm, 539, rfl⟩
abbrev main_cst_137 : Ref sig .tc := ⟨.hbm, 540, rfl⟩
abbrev main_v315 : Ref sig .tc := ⟨.hbm, 541, rfl⟩
abbrev main_v316 : Ref sig .tc := ⟨.hbm, 542, rfl⟩
abbrev main_v317 : Ref sig .tc := ⟨.hbm, 543, rfl⟩
abbrev main_cst_138 : Ref sig .tc := ⟨.hbm, 544, rfl⟩
abbrev main_v318 : Ref sig .tc := ⟨.hbm, 545, rfl⟩
abbrev main_v319 : Ref sig .tc := ⟨.hbm, 546, rfl⟩
abbrev main_v320 : Ref sig .tc := ⟨.hbm, 547, rfl⟩
abbrev main_cst_139 : Ref sig .tc := ⟨.hbm, 548, rfl⟩
abbrev main_v321 : Ref sig .tc := ⟨.hbm, 549, rfl⟩
abbrev main_v322 : Ref sig .tc := ⟨.hbm, 550, rfl⟩
abbrev main_v323 : Ref sig .tc := ⟨.hbm, 551, rfl⟩
abbrev main_v324 : Ref sig .tc := ⟨.hbm, 552, rfl⟩
abbrev main_cst_140 : Ref sig .tc := ⟨.hbm, 553, rfl⟩
abbrev main_v325 : Ref sig .tc := ⟨.hbm, 554, rfl⟩
abbrev main_v326 : Ref sig .tc := ⟨.hbm, 555, rfl⟩
abbrev main_cst_141 : Ref sig .tc := ⟨.hbm, 556, rfl⟩
abbrev main_v327 : Ref sig .tc := ⟨.hbm, 557, rfl⟩
abbrev main_v328 : Ref sig .tc := ⟨.hbm, 558, rfl⟩
abbrev main_v329 : Ref sig .tc := ⟨.hbm, 559, rfl⟩
abbrev main_cst_142 : Ref sig .tc := ⟨.hbm, 560, rfl⟩
abbrev main_v330 : Ref sig .tc := ⟨.hbm, 561, rfl⟩
abbrev main_v331 : Ref sig .tc := ⟨.hbm, 562, rfl⟩
abbrev main_v332 : Ref sig .tc := ⟨.hbm, 563, rfl⟩
abbrev main_v333 : Ref sig .tc := ⟨.hbm, 564, rfl⟩
abbrev main_v334 : Ref sig .tc := ⟨.hbm, 565, rfl⟩
abbrev main_c_143 : Ref sig .tc := ⟨.hbm, 566, rfl⟩
abbrev main_v335 : Ref sig .tc := ⟨.hbm, 567, rfl⟩
abbrev main_v336 : Ref sig .tc := ⟨.hbm, 568, rfl⟩
abbrev main_c_144 : Ref sig .tc := ⟨.hbm, 569, rfl⟩
abbrev main_v337 : Ref sig .tc := ⟨.hbm, 570, rfl⟩
abbrev main_v338 : Ref sig .tc := ⟨.hbm, 571, rfl⟩
abbrev main_v339 : Ref sig .tc := ⟨.hbm, 572, rfl⟩
abbrev main_v340 : Ref sig .tc := ⟨.hbm, 573, rfl⟩
abbrev main_v341 : Ref sig .tc := ⟨.hbm, 574, rfl⟩
abbrev main_v342 : Ref sig .tc := ⟨.hbm, 575, rfl⟩
abbrev main_v343 : Ref sig .tc := ⟨.hbm, 576, rfl⟩
abbrev main_cst_145 : Ref sig .tc := ⟨.hbm, 577, rfl⟩
abbrev main_v344 : Ref sig .tc := ⟨.hbm, 578, rfl⟩
abbrev main_cst_146 : Ref sig .tc := ⟨.hbm, 579, rfl⟩
abbrev main_v345 : Ref sig .tc := ⟨.hbm, 580, rfl⟩
abbrev main_v346 : Ref sig .tc := ⟨.hbm, 581, rfl⟩
abbrev main_cst_147 : Ref sig .tc := ⟨.hbm, 582, rfl⟩
abbrev main_call48_v0 : Ref sig .tc := ⟨.hbm, 583, rfl⟩
abbrev main_call48_v1 : Ref sig .tc := ⟨.hbm, 584, rfl⟩
abbrev main_v347 : Ref sig .tc := ⟨.hbm, 585, rfl⟩
abbrev main_v348 : Ref sig .tc := ⟨.hbm, 586, rfl⟩
abbrev main_cst_148 : Ref sig .tc := ⟨.hbm, 587, rfl⟩
abbrev main_call49_v0 : Ref sig .tc := ⟨.hbm, 588, rfl⟩
abbrev main_call49_v1 : Ref sig .tc := ⟨.hbm, 589, rfl⟩
abbrev main_v349 : Ref sig .tc := ⟨.hbm, 590, rfl⟩
abbrev main_cst_149 : Ref sig .tc := ⟨.hbm, 591, rfl⟩
abbrev main_v350 : Ref sig .tc := ⟨.hbm, 592, rfl⟩
abbrev main_v351 : Ref sig .tc := ⟨.hbm, 593, rfl⟩
abbrev main_v352 : Ref sig .tc := ⟨.hbm, 594, rfl⟩
abbrev main_v353 : Ref sig .tc := ⟨.hbm, 595, rfl⟩
abbrev main_cst_150 : Ref sig .tc := ⟨.hbm, 596, rfl⟩
abbrev main_v354 : Ref sig .tc := ⟨.hbm, 597, rfl⟩
abbrev main_v355 : Ref sig .tc := ⟨.hbm, 598, rfl⟩
abbrev main_v356 : Ref sig .tc := ⟨.hbm, 599, rfl⟩
abbrev main_c_151 : Ref sig .tc := ⟨.hbm, 600, rfl⟩
abbrev main_v357 : Ref sig .tc := ⟨.hbm, 601, rfl⟩
abbrev main_c_152 : Ref sig .tc := ⟨.hbm, 602, rfl⟩
abbrev main_v358 : Ref sig .tc := ⟨.hbm, 603, rfl⟩
abbrev main_cst_153 : Ref sig .tc := ⟨.hbm, 604, rfl⟩
abbrev main_call50_v0 : Ref sig .tc := ⟨.hbm, 605, rfl⟩
abbrev main_call50_v1 : Ref sig .tc := ⟨.hbm, 606, rfl⟩
abbrev main_v359 : Ref sig .tc := ⟨.hbm, 607, rfl⟩
abbrev main_cst_154 : Ref sig .tc := ⟨.hbm, 608, rfl⟩
abbrev main_v360 : Ref sig .tc := ⟨.hbm, 609, rfl⟩
abbrev main_c_155 : Ref sig .tc := ⟨.hbm, 610, rfl⟩
abbrev main_v361 : Ref sig .tc := ⟨.hbm, 611, rfl⟩
abbrev main_v362 : Ref sig .tc := ⟨.hbm, 612, rfl⟩
abbrev main_v363 : Ref sig .tc := ⟨.hbm, 613, rfl⟩
abbrev main_cst_156 : Ref sig .tc := ⟨.hbm, 614, rfl⟩
abbrev main_call51_v0 : Ref sig .tc := ⟨.hbm, 615, rfl⟩
abbrev main_v364 : Ref sig .tc := ⟨.hbm, 616, rfl⟩
abbrev main_cst_157 : Ref sig .tc := ⟨.hbm, 617, rfl⟩
abbrev main_v365 : Ref sig .tc := ⟨.hbm, 618, rfl⟩
abbrev main_v366 : Ref sig .tc := ⟨.hbm, 619, rfl⟩
abbrev main_v367 : Ref sig .tc := ⟨.hbm, 620, rfl⟩
abbrev main_v368 : Ref sig .tc := ⟨.hbm, 621, rfl⟩
abbrev main_v369 : Ref sig .tc := ⟨.hbm, 622, rfl⟩
abbrev main_v370 : Ref sig .tc := ⟨.hbm, 623, rfl⟩
abbrev main_v371 : Ref sig .tc := ⟨.hbm, 624, rfl⟩
abbrev main_v372 : Ref sig .tc := ⟨.hbm, 625, rfl⟩
abbrev main_cst_158 : Ref sig .tc := ⟨.hbm, 626, rfl⟩
abbrev main_v373 : Ref sig .tc := ⟨.hbm, 627, rfl⟩
abbrev main_cst_159 : Ref sig .tc := ⟨.hbm, 628, rfl⟩
abbrev main_v374 : Ref sig .tc := ⟨.hbm, 629, rfl⟩
abbrev main_v375 : Ref sig .tc := ⟨.hbm, 630, rfl⟩
abbrev main_cst_160 : Ref sig .tc := ⟨.hbm, 631, rfl⟩
abbrev main_call52_v0 : Ref sig .tc := ⟨.hbm, 632, rfl⟩
abbrev main_call52_v1 : Ref sig .tc := ⟨.hbm, 633, rfl⟩
abbrev main_v376 : Ref sig .tc := ⟨.hbm, 634, rfl⟩
abbrev main_v377 : Ref sig .tc := ⟨.hbm, 635, rfl⟩
abbrev main_cst_161 : Ref sig .tc := ⟨.hbm, 636, rfl⟩
abbrev main_call53_v0 : Ref sig .tc := ⟨.hbm, 637, rfl⟩
abbrev main_call53_v1 : Ref sig .tc := ⟨.hbm, 638, rfl⟩
abbrev main_v378 : Ref sig .tc := ⟨.hbm, 639, rfl⟩
abbrev main_c_162 : Ref sig .tc := ⟨.hbm, 640, rfl⟩
abbrev main_v379 : Ref sig .tc := ⟨.hbm, 641, rfl⟩
abbrev main_call54_v0 : Ref sig .tc := ⟨.hbm, 642, rfl⟩
abbrev main_call54_c : Ref sig .tc := ⟨.hbm, 643, rfl⟩
abbrev main_call54_v1 : Ref sig .tc := ⟨.hbm, 644, rfl⟩
abbrev main_call54_v2 : Ref sig .tc := ⟨.hbm, 645, rfl⟩
abbrev main_call54_v3 : Ref sig .tc := ⟨.hbm, 646, rfl⟩
abbrev main_call54_v4 : Ref sig .tc := ⟨.hbm, 647, rfl⟩
abbrev main_call54_c_0 : Ref sig .tc := ⟨.hbm, 648, rfl⟩
abbrev main_call54_v5 : Ref sig .tc := ⟨.hbm, 649, rfl⟩
abbrev main_v380 : Ref sig .tc := ⟨.hbm, 650, rfl⟩
abbrev main_v381 : Ref sig .tc := ⟨.hbm, 651, rfl⟩
abbrev main_v382 : Ref sig .tc := ⟨.hbm, 652, rfl⟩
abbrev main_v383 : Ref sig .tc := ⟨.hbm, 653, rfl⟩
abbrev main_v384 : Ref sig .tc := ⟨.hbm, 654, rfl⟩
abbrev main_v385 : Ref sig .tc := ⟨.hbm, 655, rfl⟩
abbrev main_v386 : Ref sig .tc := ⟨.hbm, 656, rfl⟩
abbrev main_v387 : Ref sig .tc := ⟨.hbm, 657, rfl⟩
abbrev main_c_163 : Ref sig .tc := ⟨.hbm, 658, rfl⟩
abbrev main_v388 : Ref sig .tc := ⟨.hbm, 659, rfl⟩
abbrev main_c_164 : Ref sig .tc := ⟨.hbm, 660, rfl⟩
abbrev main_v389 : Ref sig .tc := ⟨.hbm, 661, rfl⟩
abbrev main_cst_165 : Ref sig .tc := ⟨.hbm, 662, rfl⟩
abbrev main_call55_v0 : Ref sig .tc := ⟨.hbm, 663, rfl⟩
abbrev main_call55_v1 : Ref sig .tc := ⟨.hbm, 664, rfl⟩
abbrev main_v390 : Ref sig .tc := ⟨.hbm, 665, rfl⟩
abbrev main_cst_166 : Ref sig .tc := ⟨.hbm, 666, rfl⟩
abbrev main_v391 : Ref sig .tc := ⟨.hbm, 667, rfl⟩
abbrev main_c_167 : Ref sig .tc := ⟨.hbm, 668, rfl⟩
abbrev main_v392 : Ref sig .tc := ⟨.hbm, 669, rfl⟩
abbrev main_v393 : Ref sig .tc := ⟨.hbm, 670, rfl⟩
abbrev main_v394 : Ref sig .tc := ⟨.hbm, 671, rfl⟩
abbrev main_cst_168 : Ref sig .tc := ⟨.hbm, 672, rfl⟩
abbrev main_call56_v0 : Ref sig .tc := ⟨.hbm, 673, rfl⟩
abbrev main_v395 : Ref sig .tc := ⟨.hbm, 674, rfl⟩
abbrev main_c_169 : Ref sig .tc := ⟨.hbm, 675, rfl⟩
abbrev main_v396 : Ref sig .tc := ⟨.hbm, 676, rfl⟩
abbrev main_cst_170 : Ref sig .tc := ⟨.hbm, 677, rfl⟩
abbrev main_call57_v0 : Ref sig .tc := ⟨.hbm, 678, rfl⟩
abbrev main_call57_v1 : Ref sig .tc := ⟨.hbm, 679, rfl⟩
abbrev main_v397 : Ref sig .tc := ⟨.hbm, 680, rfl⟩
abbrev main_cst_171 : Ref sig .tc := ⟨.hbm, 681, rfl⟩
abbrev main_v398 : Ref sig .tc := ⟨.hbm, 682, rfl⟩
abbrev main_cst_172 : Ref sig .tc := ⟨.hbm, 683, rfl⟩
abbrev main_call58_v0 : Ref sig .tc := ⟨.hbm, 684, rfl⟩
abbrev main_v399 : Ref sig .tc := ⟨.hbm, 685, rfl⟩
abbrev main_c_173 : Ref sig .tc := ⟨.hbm, 686, rfl⟩
abbrev main_v400 : Ref sig .tc := ⟨.hbm, 687, rfl⟩
abbrev main_cst_174 : Ref sig .tc := ⟨.hbm, 688, rfl⟩
abbrev main_call59_v0 : Ref sig .tc := ⟨.hbm, 689, rfl⟩
abbrev main_call59_v1 : Ref sig .tc := ⟨.hbm, 690, rfl⟩
abbrev main_v401 : Ref sig .tc := ⟨.hbm, 691, rfl⟩
abbrev main_cst_175 : Ref sig .tc := ⟨.hbm, 692, rfl⟩
abbrev main_v402 : Ref sig .tc := ⟨.hbm, 693, rfl⟩
abbrev main_cst_176 : Ref sig .tc := ⟨.hbm, 694, rfl⟩
abbrev main_call60_v0 : Ref sig .tc := ⟨.hbm, 695, rfl⟩
abbrev main_v403 : Ref sig .tc := ⟨.hbm, 696, rfl⟩
abbrev main_v404 : Ref sig .tc := ⟨.hbm, 697, rfl⟩
abbrev main_v405 : Ref sig .tc := ⟨.hbm, 698, rfl⟩
abbrev main_c_177 : Ref sig .tc := ⟨.hbm, 699, rfl⟩
abbrev main_v406 : Ref sig .tc := ⟨.hbm, 700, rfl⟩
abbrev main_c_178 : Ref sig .tc := ⟨.hbm, 701, rfl⟩
abbrev main_v407 : Ref sig .tc := ⟨.hbm, 702, rfl⟩
abbrev main_cst_179 : Ref sig .tc := ⟨.hbm, 703, rfl⟩
abbrev main_v408 : Ref sig .tc := ⟨.hbm, 704, rfl⟩
abbrev main_cst_180 : Ref sig .tc := ⟨.hbm, 705, rfl⟩
abbrev main_v409 : Ref sig .tc := ⟨.hbm, 706, rfl⟩
abbrev main_cst_181 : Ref sig .tc := ⟨.hbm, 707, rfl⟩
abbrev main_v410 : Ref sig .tc := ⟨.hbm, 708, rfl⟩
abbrev main_v411 : Ref sig .tc := ⟨.hbm, 709, rfl⟩
abbrev main_v412 : Ref sig .tc := ⟨.hbm, 710, rfl⟩
abbrev main_v413 : Ref sig .tc := ⟨.hbm, 711, rfl⟩
abbrev main_v414 : Ref sig .tc := ⟨.hbm, 712, rfl⟩
abbrev main_v415 : Ref sig .tc := ⟨.hbm, 713, rfl⟩
abbrev main_v416 : Ref sig .tc := ⟨.hbm, 714, rfl⟩
abbrev main_v417 : Ref sig .tc := ⟨.hbm, 715, rfl⟩
abbrev main_v418 : Ref sig .tc := ⟨.hbm, 716, rfl⟩
abbrev main_v419 : Ref sig .tc := ⟨.hbm, 717, rfl⟩
abbrev main_v420 : Ref sig .tc := ⟨.hbm, 718, rfl⟩
abbrev main_v421 : Ref sig .tc := ⟨.hbm, 719, rfl⟩
abbrev main_v422 : Ref sig .tc := ⟨.hbm, 720, rfl⟩

abbrev nD : Nat := 1
abbrev τ : Topo := Topo.v7x

variable {F : FTy → Type} [FloatOps F]
-- ==== Proof.Kern.Cond.lean ====
/- The conditions under which the kernel body takes its branches, in closed form over the grid points, and the staging
   buffers the body is called with. -/
module

public import proofs.«01_k».proof.Proof.Gen.KernelIdeal.Frame

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 80 = 0 :=
  (fun t => by
    have ht : t.val < 80 := Nat.lt_of_lt_of_eq t.isLt N_0
    have e0 : (grid0.coords t 0).val = t.val / 40 % 2 := Pipeline.Grid.coords_val t 0 (by decide) rfl
    have e1 : (grid0.coords t 1).val = t.val / 1 % 40 := Pipeline.Grid.coords_val t 1 (by decide) rfl
    simp only [cond0_0, k0_cond1, e0, e1]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := k0_cond2 i = 1#1
/-- It holds at the points before point 40 — by arithmetic of the point. -/
theorem hcond0_1 : ∀ t : Fin cfg0.N, cond0_1 (grid0.coords t) ↔ t.val < 40 :=
  (fun t => by
    have ht : t.val < 80 := Nat.lt_of_lt_of_eq t.isLt N_0
    have e0 : (grid0.coords t 0).val = t.val / 40 % 2 := Pipeline.Grid.coords_val t 0 (by decide) rfl
    have e1 : (grid0.coords t 1).val = t.val / 1 % 40 := Pipeline.Grid.coords_val t 1 (by decide) rfl
    simp only [cond0_1, k0_cond2, e0, e1]
    word_cmp
   : ∀ t : Fin grid0.N, cond0_1 (grid0.coords t) ↔ t.val < 40)

/-- The condition of the body's `scf.if` 2 (`k0_h3`), from the grid coordinates (the skeleton's scalar
    chain substituted). -/
abbrev cond0_2 (i : grid0.Coords) : Prop := k0_cond3 i = 1#1
/-- It holds at point 40 only — by arithmetic of the point. -/
theorem hcond0_2 : ∀ t : Fin cfg0.N, cond0_2 (grid0.coords t) ↔ t.val % 80 = 40 :=
  (fun t => by
    have ht : t.val < 80 := Nat.lt_of_lt_of_eq t.isLt N_0
    have e0 : (grid0.coords t 0).val = t.val / 40 % 2 := Pipeline.Grid.coords_val t 0 (by decide) rfl
    have e1 : (grid0.coords t 1).val = t.val / 1 % 40 := Pipeline.Grid.coords_val t 1 (by decide) rfl
    simp only [cond0_2, k0_cond3, e0, e1]
    word_cmp
   : ∀ t : Fin grid0.N, cond0_2 (grid0.coords t) ↔ t.val % 80 = 40)

/-- The condition of the body's `scf.if` 3 (`k0_h4`), from the grid coordinates (the skeleton's scalar
    chain substituted). -/
abbrev cond0_3 (i : grid0.Coords) : Prop := k0_cond4 i = 1#1
/-- It holds at the points from point 40 on — by arithmetic of the point. -/
theorem hcond0_3 : ∀ t : Fin cfg0.N, cond0_3 (grid0.coords t) ↔ 40 ≤ t.val :=
  (fun t => by
    have ht : t.val < 80 := Nat.lt_of_lt_of_eq t.isLt N_0
    have e0 : (grid0.coords t 0).val = t.val / 40 % 2 := Pipeline.Grid.coords_val t 0 (by decide) rfl
    have e1 : (grid0.coords t 1).val = t.val / 1 % 40 := Pipeline.Grid.coords_val t 1 (by decide) rfl
    simp only [cond0_3, k0_cond4, e0, e1]
    word_cmp
   : ∀ t : Fin grid0.N, cond0_3 (grid0.coords t) ↔ 40 ≤ t.val)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 80 = 79 :=
  (fun t => by
    have ht : t.val < 80 := Nat.lt_of_lt_of_eq t.isLt N_0
    have e0 : (grid0.coords t 0).val = t.val / 40 % 2 := Pipeline.Grid.coords_val t 0 (by decide) rfl
    have e1 : (grid0.coords t 1).val = t.val / 1 % 40 := Pipeline.Grid.coords_val t 1 (by decide) rfl
    simp only [cond0_4, k0_cond5, e0, e1]
    word_cmp
   : ∀ t : Fin grid0.N, cond0_4 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x4 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x128 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Kern

end
-- ==== Proof.Kern.Steps.lean ====
/- What the kernel body makes of its buffers at one grid point, as plain functions of their contents: the zeroed
   accumulators, one accumulation step of the sums and counts, the centroids, one accumulation step of the distances, and
   the four rows of statistics. -/
module

public import proofs.«01_k».proof.Proof.Kern.Cond
public import proofs.«01_k».proof.Proof.Gen.KernelIdeal.Skeleton
public import Idealize.ShloMosaic.Lib.VecWindow

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

/-- The sums after one more block of rows. -/
def stepS (x : Vec F S4000x128 .f32) (a : Vec F S4000x4 .i32) (s : Vec F S512x128 .f32) : Vec F S512x128 .f32 :=
  k0_pay3 (k0_pay9 x a) s

/-- The counts after one more block of rows. -/
def stepC (x : Vec F S4000x128 .f32) (a : Vec F S4000x4 .i32) (n : Vec F S512x1 .f32) : Vec F S512x1 .f32 :=
  k0_pay4 (k0_pay9 x a) n

/-- The accumulated distances after one more block of rows: the four configurations' rows one after another. -/
def stepI (x : Vec F S4000x128 .f32) (a : Vec F S4000x4 .i32) (ct : Vec F S512x128 .bf16) (y : Vec F S4x128 .f32) : Vec F S4x128 .f32 :=
  put (s := S4x128) (put (s := S4x128) (put (s := S4x128) (put (s := S4x128) y
    ![0, 0] S1x128.size (k0_pay11 x a (window (s := S512x128) ct ![0, 0] S128x128.size inb_S512x128_S128x128_0_0)
      (window (s := S4x128) y ![0, 0] S1x128.size inb_S4x128_S1x128_0_0)))
    ![1, 0] S1x128.size (k0_pay12 (k0_pay10 x) a (window (s := S512x128) ct ![128, 0] S128x128.size inb_S512x128_S128x128_128_0)
      (window (s := S4x128) y ![1, 0] S1x128.size inb_S4x128_S1x128_1_0)))
    ![2, 0] S1x128.size (k0_pay14 (k0_pay10 x) a (k0_pay13 a) (window (s := S512x128) ct ![256, 0] S128x128.size inb_S512x128_S128x128_256_0)
      (window (s := S4x128) y ![2, 0] S1x128.size inb_S4x128_S1x128_2_0)))
    ![3, 0] S1x128.size (k0_pay7 (k0_pay10 x) a (k0_pay15 a) (Scalar.ofBits .bf16 0x3F80#16) (Scalar.ofBits .bf16 0x0000#16)
      (window (s := S512x128) ct ![384, 0] S128x128.size inb_S512x128_S128x128_384_0)
      (window (s := S4x128) y ![3, 0] S1x128.size inb_S4x128_S1x128_3_0))

/-- The row of statistics of a configuration, from its counts, its accumulated distances and its sums. -/
def statRow (n : Vec F S128x1 .f32) (y : Vec F S1x128 .f32) (s : Vec F S128x128 .f32) : Vec F S1x4 .f32 :=
  k0_pay33 (k0_pay20 n)
    (k0_pay29 (k0_pay25 k0_pay17 (k0_pay18 n) s) (k0_pay26 k0_pay16 (k0_pay18 n) (k0_pay19 n)) (k0_pay27 k0_pay16 (k0_pay18 n) (k0_pay19 n)))
    (k0_pay30 (k0_pay21 n y) (k0_pay22 n) (k0_pay23 n) (k0_pay25 k0_pay17 (k0_pay18 n) s) (k0_pay26 k0_pay16 (k0_pay18 n) (k0_pay19 n)) (k0_pay27 k0_pay16 (k0_pay18 n) (k0_pay19 n)))
    (Scalar.cmpf .ole (k0_pay31 (k0_pay19 n)) (Scalar.ofBits .f32 0x3F800000#32))
    (k0_pay32 (k0_pay19 n) (k0_pay24 (k0_pay21 n y) (k0_pay22 n) (k0_pay23 n) (Scalar.cmpf .ogt (k0_pay23 n) (Scalar.ofBits .f32 0x00000000#32))))

/-- The second configuration's row, as the body's second stretch computes it. -/
def statRow1 (n : Vec F S128x1 .f32) (y : Vec F S1x128 .f32) (s : Vec F S128x128 .f32) : Vec F S1x4 .f32 :=
  k0_pay49 (k0_pay36 k0_pay17 n)
    (k0_pay41 (k0_pay37 k0_pay17 n y) (k0_pay38 k0_pay17 n) (k0_pay39 k0_pay17 n))
    (k0_pay46 (k0_pay35 k0_pay17 n) (k0_pay42 k0_pay17 (k0_pay34 n) s) (k0_pay43 k0_pay16 (k0_pay34 n)) (Scalar.ofBits .f32 0x00000000#32))
    (k0_pay47 (k0_pay35 k0_pay17 n) (k0_pay37 k0_pay17 n y) (k0_pay38 k0_pay17 n) (k0_pay40 (k0_pay39 k0_pay17 n)) (k0_pay42 k0_pay17 (k0_pay34 n) s) (k0_pay43 k0_pay16 (k0_pay34 n)) (Scalar.ofBits .f32 0x00000000#32))
    (k0_pay48 (k0_pay35 k0_pay17 n))

/-- The third configuration's row. -/
def statRow2 (n : Vec F S128x1 .f32) (y : Vec F S1x128 .f32) (s : Vec F S128x128 .f32) : Vec F S1x4 .f32 :=
  k0_pay64 (k0_pay52 k0_pay17 n)
    (k0_pay57 (k0_pay51 k0_pay17 n) (k0_pay53 k0_pay17 n y) k0_pay54)
    (k0_pay61 k0_pay16 (k0_pay50 n) (k0_pay51 k0_pay17 n) (k0_pay58 k0_pay17 (k0_pay50 n) s) (Scalar.ofBits .f32 0x00000000#32))
    (k0_pay62 k0_pay16 (k0_pay50 n) (k0_pay51 k0_pay17 n) (k0_pay53 k0_pay17 n y) (k0_pay55 (k0_pay51 k0_pay17 n) k0_pay54) (k0_pay56 (k0_pay51 k0_pay17 n) k0_pay54) (k0_pay58 k0_pay17 (k0_pay50 n) s) (Scalar.ofBits .f32 0x00000000#32))
    (k0_pay63 (k0_pay51 k0_pay17 n))

/-- The fourth configuration's row. -/
def statRow3 (n : Vec F S128x1 .f32) (y : Vec F S1x128 .f32) (s : Vec F S128x128 .f32) : Vec F S1x4 .f32 :=
  k0_pay8 (k0_pay66 k0_pay17 n) (k0_pay67 k0_pay17 n) (k0_pay72 (k0_pay66 k0_pay17 n) (k0_pay68 k0_pay17 n) y)
    (k0_pay79 k0_pay16 (k0_pay65 n) (k0_pay66 k0_pay17 n) (k0_pay74 k0_pay17 (k0_pay65 n) s) (k0_pay75 k0_pay17 (k0_pay65 n) s))
    (k0_pay80 (k0_pay69 (k0_pay68 k0_pay17 n) y) (k0_pay70 (k0_pay66 k0_pay17 n)) (k0_pay71 (k0_pay66 k0_pay17 n)))
    (k0_pay81 k0_pay16 (k0_pay65 n) (k0_pay66 k0_pay17 n) (k0_pay74 k0_pay17 (k0_pay65 n) s) (k0_pay75 k0_pay17 (k0_pay65 n) s))

/-- The statistics the last point stores, one row per configuration. -/
def stepE (s : Vec F S512x128 .f32) (n : Vec F S512x1 .f32) (y : Vec F S4x128 .f32) (e : Vec F S4x4 .f32) : Vec F S4x4 .f32 :=
  put (s := S4x4) (put (s := S4x4) (put (s := S4x4) (put (s := S4x4) e
    ![0, 0] S1x4.size (statRow (window (s := S512x1) n ![0, 0] S128x1.size inb_S512x1_S128x1_0_0)
      (window (s := S4x128) y ![0, 0] S1x128.size inb_S4x128_S1x128_0_0) (window (s := S512x128) s ![0, 0] S128x128.size inb_S512x128_S128x128_0_0)))
    ![1, 0] S1x4.size (statRow1 (window (s := S512x1) n ![128, 0] S128x1.size inb_S512x1_S128x1_128_0)
      (window (s := S4x128) y ![1, 0] S1x128.size inb_S4x128_S1x128_1_0) (window (s := S512x128) s ![128, 0] S128x128.size inb_S512x128_S128x128_128_0)))
    ![2, 0] S1x4.size (statRow2 (window (s := S512x1) n ![256, 0] S128x1.size inb_S512x1_S128x1_256_0)
      (window (s := S4x128) y ![2, 0] S1x128.size inb_S4x128_S1x128_2_0) (window (s := S512x128) s ![256, 0] S128x128.size inb_S512x128_S128x128_256_0)))
    ![3, 0] S1x4.size (statRow3 (window (s := S512x1) n ![384, 0] S128x1.size inb_S512x1_S128x1_384_0)
      (window (s := S4x128) y ![3, 0] S1x128.size inb_S4x128_S1x128_3_0) (window (s := S512x128) s ![384, 0] S128x128.size inb_S512x128_S128x128_384_0))

/-- The four stretches compute one function. -/
theorem statRow1_eq (n : Vec F S128x1 .f32) (y : Vec F S1x128 .f32) (s : Vec F S128x128 .f32) : statRow1 n y s = statRow n y s := rfl
theorem statRow2_eq (n : Vec F S128x1 .f32) (y : Vec F S1x128 .f32) (s : Vec F S128x128 .f32) : statRow2 n y s = statRow n y s := rfl
theorem statRow3_eq (n : Vec F S128x1 .f32) (y : Vec F S1x128 .f32) (s : Vec F S128x128 .f32) : statRow3 n y s = statRow n y s := rfl

/-- A load of a whole buffer at its own sizes reads its contents. -/
theorem load_full {s : Shape} {e : EltTy} {M : Memref sig .tc .vmem s e} (h : M.IsWhole) (x : Vec F s e) {off : Fin s.rank → ℕ}
    (inb : ∀ a, off a + s.size a ≤ s.size a) :
    M.view.readAt (Elt F) (Rect.unit off s.size inb).toLoadRect (h.unread x) = x := by
  rw [View.readAt_full, h.read_unread]

/-- A load of a rectangle of a whole buffer reads a window of its contents. -/
theorem load_window {s : Shape} {e : EltTy} {M : Memref sig .tc .vmem s e} (h : M.IsWhole) (x : Vec F s e) {off size : Fin s.rank → ℕ}
    (inb : ∀ a, off a + size a ≤ s.size a) :
    M.view.readAt (Elt F) (Rect.unit off size inb).toLoadRect (h.unread x) = window x off size inb := by
  rw [View.readAt_unit _ _ _ rfl inb, h.read_unread]

/-- A covered load of a rectangle, over the pieces stored, reads a window of what the pieces leave. -/
theorem cov_window {s : Shape} {e : EltTy} (M : Memref sig .tc .vmem s e) (L : List (View.Piece (Elt F) s e)) {off size : Fin s.rank → ℕ}
    (inb : ∀ a, off a + size a ≤ s.size a) :
    M.view.readCov L (Rect.unit off size inb).toLoadRect = window (M.view.read (Elt F) (M.view.writes (Elt F) M.view.junk L)) off size inb :=
  View.readAt_unit _ _ _ rfl inb

section rows
variable (b : Vec F S4x128 .f32) (w0 w1 w2 w3 : Vec F S1x128 .f32)

/-- Four rows put one after another over a four-row block. -/
def rows4 : Vec F S4x128 .f32 :=
  put (s := S4x128) (put (s := S4x128) (put (s := S4x128) (put (s := S4x128) b ![0, 0] S1x128.size w0) ![1, 0] S1x128.size w1)
    ![2, 0] S1x128.size w2) ![3, 0] S1x128.size w3

theorem rows4_0 : window (s := S4x128) (rows4 b w0 w1 w2 w3) ![0, 0] S1x128.size inb_S4x128_S1x128_0_0 = w0 := by
  unfold rows4
  rw [VecWindow.window_put_of_disjoint (s := S4x128) _ _ _ _ _ _ _ 0 (by decide), VecWindow.window_put_of_disjoint (s := S4x128) _ _ _ _ _ _ _ 0 (by decide),
    VecWindow.window_put_of_disjoint (s := S4x128) _ _ _ _ _ _ _ 0 (by decide), VecWindow.window_put_same]

theorem rows4_1 : window (s := S4x128) (rows4 b w0 w1 w2 w3) ![1, 0] S1x128.size inb_S4x128_S1x128_1_0 = w1 := by
  unfold rows4
  rw [VecWindow.window_put_of_disjoint (s := S4x128) _ _ _ _ _ _ _ 0 (by decide), VecWindow.window_put_of_disjoint (s := S4x128) _ _ _ _ _ _ _ 0 (by decide),
    VecWindow.window_put_same]

theorem rows4_2 : window (s := S4x128) (rows4 b w0 w1 w2 w3) ![2, 0] S1x128.size inb_S4x128_S1x128_2_0 = w2 := by
  unfold rows4
  rw [VecWindow.window_put_of_disjoint (s := S4x128) _ _ _ _ _ _ _ 0 (by decide), VecWindow.window_put_same]

theorem rows4_3 : window (s := S4x128) (rows4 b w0 w1 w2 w3) ![3, 0] S1x128.size inb_S4x128_S1x128_3_0 = w3 := by
  unfold rows4
  rw [VecWindow.window_put_same]

end rows

/-- A row of the block is not touched by a store to another row. -/
theorem cov_row {M : Memref sig .tc .vmem S4x128 .f32} {i j : ℕ} (h : i ≠ j) (w : Vec F S1x128 .f32)
    (L : List (View.Piece (Elt F) S4x128 .f32)) (inb' : ∀ a, (![i, 0] : Fin 2 → ℕ) a + S1x128.size a ≤ S4x128.size a)
    (inb : ∀ a, (![j, 0] : Fin 2 → ℕ) a + S1x128.size a ≤ S4x128.size a) :
    M.view.readCov (⟨Rect.unit (s := S4x128) ![i, 0] S1x128.size inb', w⟩ :: L) (Rect.unit (s := S4x128) ![j, 0] S1x128.size inb).toLoadRect
      = M.view.readCov L (Rect.unit (s := S4x128) ![j, 0] S1x128.size inb).toLoadRect := by
  rw [cov_window, cov_window, View.read_writes_cons_put _ _ _ _ _ rfl]
  refine VecWindow.window_put_of_disjoint (s := S4x128) _ _ _ _ _ _ _ 0 ?_
  show j + 1 ≤ i ∨ i + 1 ≤ j
  omega

/-- A load after a store of the whole buffer reads a window of the stored contents. -/
theorem cov_full {s : Shape} {e : EltTy} (M : Memref sig .tc .vmem s e) {off' off size : Fin s.rank → ℕ}
    (inb' : ∀ a, off' a + s.size a ≤ s.size a) (inb : ∀ a, off a + size a ≤ s.size a) (w : Vec F s e) :
    M.view.readCov [⟨Rect.unit off' s.size inb', w⟩] (Rect.unit off size inb).toLoadRect = window w off size inb := by
  rw [cov_window, View.read_writes_full]

end Cert.KernelIdeal.Kern

end
-- ==== Proof.Kern.Traj.lean ====
/- What every buffer holds after every grid point: the trajectories of the sums, the counts and the distances, the centroids, and the
   proof data of the pipeline built of them. -/
module

public import proofs.«01_k».proof.Proof.Kern.Steps
public import Idealize.ShloMosaic.Lib.Pipeline.TableIdle

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Trajectories over any sequence of blocks -/

section traj
variable (X : ℕ → Vec F S4000x128 .f32) (A : ℕ → Vec F S4000x4 .i32)

/-- The sums after point `n`: accumulated through the first forty points, kept afterwards. -/
def trS : ℕ → Vec F S512x128 .f32
  | 0 => stepS (X 0) (A 0) k0_pay1
  | n + 1 => if n + 1 < 40 then stepS (X (n + 1)) (A (n + 1)) (trS n) else trS n

/-- The counts after point `n`. -/
def trC : ℕ → Vec F S512x1 .f32
  | 0 => stepC (X 0) (A 0) k0_pay2
  | n + 1 => if n + 1 < 40 then stepC (X (n + 1)) (A (n + 1)) (trC n) else trC n

/-- The centroids the second pass reads. -/
def trK : Vec F S512x128 .bf16 := k0_pay5 (trS X A 39) (trC X A 39)

/-- The distances after point `n`: zero through the first forty points, accumulated afterwards. -/
def trI : ℕ → Vec F S4x128 .f32
  | 0 => k0_pay6
  | n + 1 => if n + 1 < 40 then k0_pay6 else stepI (X (n + 1)) (A (n + 1)) (trK X A) (trI n)

/-- The statistics. -/
def trE : Vec F S4x4 .f32 := stepE (trS X A 79) (trC X A 79) (trI X A 79) (fun _ => Scalar.ofBits .f32 0x00000000#32)

theorem trS_step {n : ℕ} (h : n ≠ 0) (h' : n < 40) : trS X A n = stepS (X n) (A n) (trS X A (n - 1)) := by
  obtain ⟨k, rfl⟩ := Nat.exists_eq_succ_of_ne_zero h
  exact if_pos h'
theorem trS_keep {n : ℕ} (h' : 40 ≤ n) : trS X A n = trS X A (n - 1) := by
  obtain ⟨k, rfl⟩ := Nat.exists_eq_succ_of_ne_zero (show n ≠ 0 by omega)
  exact if_neg (by omega)
theorem trC_step {n : ℕ} (h : n ≠ 0) (h' : n < 40) : trC X A n = stepC (X n) (A n) (trC X A (n - 1)) := by
  obtain ⟨k, rfl⟩ := Nat.exists_eq_succ_of_ne_zero h
  exact if_pos h'
theorem trC_keep {n : ℕ} (h' : 40 ≤ n) : trC X A n = trC X A (n - 1) := by
  obtain ⟨k, rfl⟩ := Nat.exists_eq_succ_of_ne_zero (show n ≠ 0 by omega)
  exact if_neg (by omega)
theorem trI_step {n : ℕ} (h' : 40 ≤ n) : trI X A n = stepI (X n) (A n) (trK X A) (trI X A (n - 1)) := by
  obtain ⟨k, rfl⟩ := Nat.exists_eq_succ_of_ne_zero (show n ≠ 0 by omega)
  exact if_neg (by omega)
theorem trI_zero : ∀ {n : ℕ}, n < 40 → trI X A n = k0_pay6
  | 0, _ => rfl
  | n + 1, h => if_pos h
/-- The sums do not change after point 39. -/
theorem trS_end (n : ℕ) (h : 39 ≤ n) : trS X A n = trS X A 39 := by
  induction n, h using Nat.le_induction with
  | base => rfl
  | succ n hn ih => rw [trS_keep X A (show 40 ≤ n + 1 by omega)]; exact ih
theorem trC_end (n : ℕ) (h : 39 ≤ n) : trC X A n = trC X A 39 := by
  induction n, h using Nat.le_induction with
  | base => rfl
  | succ n hn ih => rw [trC_keep X A (show 40 ≤ n + 1 by omega)]; exact ih

end traj

/-- The four rows cover the statistics: what the block held before does not matter. -/
theorem stepE_any (s : Vec F S512x128 .f32) (n : Vec F S512x1 .f32) (y : Vec F S4x128 .f32) (e e' : Vec F S4x4 .f32) :
    stepE s n y e = stepE s n y e' := by
  funext j
  unfold stepE VecWindow.put
  have hj : (j 0).val < 4 := (j 0).isLt
  have hk : (j 1).val < 4 := (j 1).isLt
  have key : ∀ r : ℕ, (j 0).val = r → ∀ a : Fin S4x4.rank, (![r, 0] : Fin 2 → ℕ) a ≤ (j a).val ∧ (j a).val < (![r, 0] : Fin 2 → ℕ) a + S1x4.size a := by
    intro r hr a
    match a with
    | ⟨0, _⟩ => exact ⟨le_of_eq hr.symm, by show (j 0).val < r + 1; omega⟩
    | ⟨1, _⟩ => exact ⟨Nat.zero_le _, by show (j 1).val < 0 + 4; omega⟩
  split_ifs with h3 h2 h1 h0
  · rfl
  · rfl
  · rfl
  · rfl
  · exfalso
    have : (j 0).val = 0 ∨ (j 0).val = 1 ∨ (j 0).val = 2 ∨ (j 0).val = 3 := by omega
    rcases this with h | h | h | h
    · exact h0 (key 0 h)
    · exact h1 (key 1 h)
    · exact h2 (key 2 h)
    · exact h3 (key 3 h)

/-! ## The proof data -/

/-- The point of number `n` (mod 80). -/
def pt (n : ℕ) : Fin cfg0.N := ⟨n % 80, lt_of_lt_of_eq (Nat.mod_lt n (by decide)) (show 80 = cfg0.N from N_0.symm)⟩

/-- The blocks of rows, point by point. -/
def xs (c : Dev nD) (n : ℕ) : Vec F S4000x128 .f32 := iblk m c 0 (pt n)
/-- The blocks of assignments, point by point. -/
def asn (c : Dev nD) (n : ℕ) : Vec F S4000x4 .i32 := iblk m c 1 (pt n)

theorem pt_val (t : Fin cfg0.N) : pt t.val = t :=
  Fin.ext (Nat.mod_eq_of_lt (lt_of_lt_of_eq t.isLt (show cfg0.N = 80 from N_0)))
theorem xs_val (c : Dev nD) (t : Fin cfg0.N) : xs m c t.val = iblk m c 0 t := by unfold xs; rw [pt_val]
theorem asn_val (c : Dev nD) (t : Fin cfg0.N) : asn m c t.val = iblk m c 1 t := by unfold asn; rw [pt_val]

/-- The invariant before point `n`: the scratch buffer at anything until the centroids are made, at the centroids afterwards. -/
def PhiS (c : Dev nD) (n : ℕ) : sProp 𝕄 :=
  if n ≤ 40 then Pipeline.ΦA spec0 c
  else iprop(owns (c : Thread nD τ) scM0_0 fullShare (trK (xs m c) (asn m c)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => trS (xs m c) (asn m c) t.val
    | ⟨3, _⟩ => trC (xs m c) (asn m c) t.val
    | ⟨4, _⟩ => trI (xs m c) (asn m c) t.val
    | ⟨5, _⟩ => trE (xs m c) (asn m c)
  Φ t := PhiS m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = trS (xs m c) (asn m c) t.val := by dsimp only [dats]
theorem after0_3 (c : Dev nD) (t : Fin cfg0.N) : (dats m 0 c).after 3 t = trC (xs m c) (asn m c) t.val := by dsimp only [dats]
theorem after0_4 (c : Dev nD) (t : Fin cfg0.N) : (dats m 0 c).after 4 t = trI (xs m c) (asn m c) t.val := by dsimp only [dats]
theorem after0_5 (c : Dev nD) (t : Fin cfg0.N) : (dats m 0 c).after 5 t = trE (xs m c) (asn m c) := by dsimp only [dats]
theorem Phi_cast (c : Dev nD) (t : Fin cfg0.N) : (dats m 0 c).Φ t.castSucc = PhiS m c t.val := by
  dsimp only [dats]; exact Pipeline.Dat.Φ_castSucc (fun n _ => PhiS m c n) t
theorem Phi_succ (c : Dev nD) (t : Fin cfg0.N) : (dats m 0 c).Φ t.succ = PhiS m c (t.val + 1) := by
  dsimp only [dats]; rfl

/-! ## Idle points -/

theorem idle_iff (i : grid0.Coords) (P : Prop) [Decidable P] (x : BitVec 1) (h : x = 1#1 ↔ P) : (x == 1#1) = decide P := by
  rw [Bool.eq_iff_iff]; simp [h]

theorem idle0_2 (t : Fin cfg0.N) : cfg0.idle 2 (cfg0.grid.coords t) = decide (40 ≤ t.val) := by
  show (!(k0_cond1 (grid0.coords t) == 1#1) && !(k0_cond2 (grid0.coords t) == 1#1)) = _
  have hN : t.val < 80 := lt_of_lt_of_eq t.isLt (show cfg0.N = 80 from N_0)
  rw [idle_iff (grid0.coords t) _ _ (hcond0_0 t), idle_iff (grid0.coords t) _ _ (hcond0_1 t), ← decide_not, ← decide_not, ← Bool.decide_and, decide_eq_decide]
  omega
theorem idle0_3 (t : Fin cfg0.N) : cfg0.idle 3 (cfg0.grid.coords t) = decide (40 ≤ t.val) := idle0_2 t
theorem idle0_4 (t : Fin cfg0.N) : cfg0.idle 4 (cfg0.grid.coords t) = decide (t.val < 40) := by
  show (!(k0_cond3 (grid0.coords t) == 1#1) && !(k0_cond4 (grid0.coords t) == 1#1)) = _
  have hN : t.val < 80 := lt_of_lt_of_eq t.isLt (show cfg0.N = 80 from N_0)
  rw [idle_iff (grid0.coords t) _ _ (hcond0_2 t), idle_iff (grid0.coords t) _ _ (hcond0_3 t), ← decide_not, ← decide_not, ← Bool.decide_and, decide_eq_decide]
  omega
theorem idle0_5 (t : Fin cfg0.N) : cfg0.idle 5 (cfg0.grid.coords t) = decide (t.val ≠ 79) := by
  show (!(k0_cond5 (grid0.coords t) == 1#1)) = _
  have hN : t.val < 80 := lt_of_lt_of_eq t.isLt (show cfg0.N = 80 from N_0)
  rw [idle_iff (grid0.coords t) _ _ (hcond0_4 t), ← decide_not, decide_eq_decide]
  omega

theorem noflush {w : Fin cfg0.W} (h : ∀ t : Fin cfg0.N, (cfg0.win w).flush t = true ↔ t.val % 80 = 79) (t : Fin cfg0.N) (ht : t.val < 79) :
    (cfg0.win w).flush t = false := by
  rw [← Bool.not_eq_true, h]; omega
theorem doflush {w : Fin cfg0.W} (h : ∀ t : Fin cfg0.N, (cfg0.win w).flush t = true ↔ t.val % 80 = 79) (t : Fin cfg0.N) (ht : t.val = 79) :
    (cfg0.win w).flush t = true := by
  rw [h]; omega

/-- A buffer not written back before the last point is as found until the first point that stores into it. -/
theorem fresh_upto {w : Fin cfg0.W} (hf : ∀ t : Fin cfg0.N, (cfg0.win w).flush t = true ↔ t.val % 80 = 79) (k : ℕ)
    (hi : ∀ t : Fin cfg0.N, t.val < k → cfg0.idle w (cfg0.grid.coords t) = true)
    (hk : ∀ t : Fin cfg0.N, t.val = k → cfg0.idle w (cfg0.grid.coords t) = false) :
    ∀ n, n < 80 → cfg0.fresh w n = decide (n ≤ k)
  | 0, _ => by rw [Pipeline.Cfg.fresh_zero]; exact (decide_eq_true (Nat.zero_le k)).symm
  | n + 1, h => by
    have hN : n < cfg0.N := lt_of_lt_of_eq (show n < 80 by omega) (show 80 = cfg0.N from N_0.symm)
    rw [Pipeline.Cfg.fresh_succ _ _ n hN, fresh_upto hf k hi hk n (by omega), noflush hf ⟨n, hN⟩ (show n < 79 by omega), Bool.false_or]
    rcases lt_trichotomy n k with h1 | h1 | h1
    · rw [hi ⟨n, hN⟩ h1, Bool.true_and, decide_eq_decide]; omega
    · rw [hk ⟨n, hN⟩ h1, Bool.false_and]; exact (decide_eq_false (by omega)).symm
    · rw [decide_eq_false (show ¬ n ≤ k by omega), Bool.and_false]; exact (decide_eq_false (by omega)).symm

theorem fresh0_2 (n : ℕ) (h : n < 80) : cfg0.fresh 2 n = decide (n ≤ 0) :=
  fresh_upto flush0_2 0 (fun t ht => absurd ht (Nat.not_lt_zero _)) (fun t ht => by rw [idle0_2]; exact decide_eq_false (by omega)) n h
theorem fresh0_3 (n : ℕ) (h : n < 80) : cfg0.fresh 3 n = decide (n ≤ 0) :=
  fresh_upto flush0_3 0 (fun t ht => absurd ht (Nat.not_lt_zero _)) (fun t ht => by rw [idle0_3]; exact decide_eq_false (by omega)) n h
theorem fresh0_4 (n : ℕ) (h : n < 80) : cfg0.fresh 4 n = decide (n ≤ 40) :=
  fresh_upto flush0_4 40 (fun t ht => by rw [idle0_4]; exact decide_eq_true ht) (fun t ht => by rw [idle0_4]; exact decide_eq_false (by omega)) n h

/-! ## What the body finds -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (h : t.val ≠ 0) (d) : (dats m 0 c).before 2 t d = trS (xs m c) (asn m c) (t.val - 1) := by
  have hN : t.val < 80 := lt_of_lt_of_eq t.isLt (show cfg0.N = 80 from N_0)
  rw [(dats m 0 c).before_out_traj 2 rfl (fun _ _ => rfl) (fun t' h1 h2 _ => by
    rw [idle0_2] at h2
    rw [after0_2, after0_2]; exact trS_keep _ _ (of_decide_eq_true h2)) t.val t rfl d, fresh0_2 _ hN, decide_eq_false (show ¬ t.val ≤ 0 by omega), after0_2]
  rfl
theorem before0_3 (c : Dev nD) (t : Fin cfg0.N) (h : t.val ≠ 0) (d) : (dats m 0 c).before 3 t d = trC (xs m c) (asn m c) (t.val - 1) := by
  have hN : t.val < 80 := lt_of_lt_of_eq t.isLt (show cfg0.N = 80 from N_0)
  rw [(dats m 0 c).before_out_traj 3 rfl (fun _ _ => rfl) (fun t' h1 h2 _ => by
    rw [idle0_3] at h2
    rw [after0_3, after0_3]; exact trC_keep _ _ (of_decide_eq_true h2)) t.val t rfl d, fresh0_3 _ hN, decide_eq_false (show ¬ t.val ≤ 0 by omega), after0_3]
  rfl
theorem before0_4 (c : Dev nD) (t : Fin cfg0.N) (h : 40 < t.val) (d) : (dats m 0 c).before 4 t d = trI (xs m c) (asn m c) (t.val - 1) := by
  have hN : t.val < 80 := lt_of_lt_of_eq t.isLt (show cfg0.N = 80 from N_0)
  rw [(dats m 0 c).before_out_traj 4 rfl (fun _ _ => rfl) (fun t' h1 h2 h3 => by
    have hN' : t'.val < 80 := lt_of_lt_of_eq t'.isLt (show cfg0.N = 80 from N_0)
    rw [idle0_4] at h2
    rw [fresh0_4 _ hN'] at h3
    have := of_decide_eq_true h2
    have := of_decide_eq_false h3
    omega) t.val t rfl d, fresh0_4 _ hN, decide_eq_false (show ¬ t.val ≤ 40 by omega), after0_4]
  rfl

end Cert.KernelIdeal.Kern

end
-- ==== Proof.Kern.RunA.lean ====
/- The body at the very first point: it zeroes the sums and the counts and accumulates one block of rows. -/
module

public import proofs.«01_k».proof.Proof.Kern.Steps
public import Idealize.ShloMosaic.Lib.Exec

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 1000000 in
/-- The body at the very first point: it zeroes the sums and the counts and accumulates one block of rows. -/
theorem runA (c : Dev nD) (i : grid0.Coords) (arg2 : Memref sig .tc .vmem S4000x128 .f32) (harg2 : arg2.IsWhole) (arg3 : Memref sig .tc .vmem S4000x4 .i32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S4x128 .f32) (harg6 : arg6.IsWhole) (arg7 : Memref sig .tc .vmem S4x4 .f32) (harg7 : arg7.IsWhole)
    (arg8 : Memref sig .tc .vmem S512x128 .bf16) (harg8 : arg8.IsWhole)
    (hc0 : cond0_0 i) (hc1 : cond0_1 i) (hc2 : ¬cond0_2 i) (hc3 : ¬cond0_3 i) (hc4 : ¬cond0_4 i)
    (x0 : Vec F S4000x128 .f32) (x1 : Vec F S4000x4 .i32) (x2 : Vec F S512x128 .f32) (x3 : Vec F S512x1 .f32) (x4 : Vec F S4x128 .f32) (x5 : Vec F S4x4 .f32) (x6 : Vec F S512x128 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (iprop(owns (c : Thread nD τ) arg2 fullShare x0 ∗ owns (c : Thread nD τ) arg3 fullShare x1 ∗ owns (c : Thread nD τ) arg4 fullShare (stepS x0 x1 k0_pay1) ∗ owns (c : Thread nD τ) arg5 fullShare (stepC x0 x1 k0_pay2) ∗ owns (c : Thread nD τ) arg6 fullShare x4 ∗ owns (c : Thread nD τ) arg7 fullShare x5 ∗ owns (c : Thread nD τ) arg8 fullShare x6) -∗ K ⟨⟩))
        ⊢ wp frame (wpE (defs₀ (F := F)) Variants.none c none) E (cc0__fused_body i arg2 harg2 arg3 harg3 arg4 harg4 arg5 harg5 arg6 harg6 arg7 harg7 arg8 harg8) K := by
  intro E K
  simp only [cc0__fused_body_eq_skeleton]; unfold cc0__fused_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ inb_S512x128_S512x128_0_0 _ _).trans ?_
    dsimp only [runA.sl.r, runA.sl.v64, runA.sl.H2_1]
    rw [load_full harg2 x0 inb_S4000x128_S4000x128_0_0, load_full harg3 x1 inb_S4000x4_S4000x4_0_0, View.readCov_full _ inb_S512x128_S512x128_0_0 inb_S512x128_S512x128_0_0]
    rfl
  isplitl [H3]
  · iexists _; isplitr; swap; · iexact H3
    ipureintro
    refine (View.read_writes_full _ _ inb_S512x1_S512x1_0_0 _ _).trans ?_
    dsimp only [runA.sl.r, runA.sl.v69, runA.sl.H3_1]
    rw [load_full harg2 x0 inb_S4000x128_S4000x128_0_0, load_full harg3 x1 inb_S4000x4_S4000x4_0_0, View.readCov_full _ inb_S512x1_S512x1_0_0 inb_S512x1_S512x1_0_0]
    rfl
  isplitl [H4]
  · iexists _; isplitr; · ipureintro; exact harg6.read_unread _
    iexact H4
  isplitl [H5]
  · iexists _; isplitr; · ipureintro; exact harg7.read_unread _
    iexact H5
  iexists _; isplitr; · ipureintro; exact harg8.read_unread _
  iexact H6

end Cert.KernelIdeal.Kern

end
-- ==== Proof.Kern.RunB.lean ====
/- The body at a later point of the first pass: it accumulates one block of rows into the sums and the counts. -/
module

public import proofs.«01_k».proof.Proof.Kern.RunA
public import Idealize.ShloMosaic.Lib.Exec

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 1000000 in
/-- The body at a later point of the first pass: it accumulates one block of rows into the sums and the counts. -/
theorem runB (c : Dev nD) (i : grid0.Coords) (arg2 : Memref sig .tc .vmem S4000x128 .f32) (harg2 : arg2.IsWhole) (arg3 : Memref sig .tc .vmem S4000x4 .i32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S4x128 .f32) (harg6 : arg6.IsWhole) (arg7 : Memref sig .tc .vmem S4x4 .f32) (harg7 : arg7.IsWhole)
    (arg8 : Memref sig .tc .vmem S512x128 .bf16) (harg8 : arg8.IsWhole)
    (hc0 : ¬cond0_0 i) (hc1 : cond0_1 i) (hc2 : ¬cond0_2 i) (hc3 : ¬cond0_3 i) (hc4 : ¬cond0_4 i)
    (x0 : Vec F S4000x128 .f32) (x1 : Vec F S4000x4 .i32) (x2 : Vec F S512x128 .f32) (x3 : Vec F S512x1 .f32) (x4 : Vec F S4x128 .f32) (x5 : Vec F S4x4 .f32) (x6 : Vec F S512x128 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (iprop(owns (c : Thread nD τ) arg2 fullShare x0 ∗ owns (c : Thread nD τ) arg3 fullShare x1 ∗ owns (c : Thread nD τ) arg4 fullShare (stepS x0 x1 x2) ∗ owns (c : Thread nD τ) arg5 fullShare (stepC x0 x1 x3) ∗ owns (c : Thread nD τ) arg6 fullShare x4 ∗ owns (c : Thread nD τ) arg7 fullShare x5 ∗ owns (c : Thread nD τ) arg8 fullShare x6) -∗ K ⟨⟩))
        ⊢ wp frame (wpE (defs₀ (F := F)) Variants.none c none) E (cc0__fused_body i arg2 harg2 arg3 harg3 arg4 harg4 arg5 harg5 arg6 harg6 arg7 harg7 arg8 harg8) K := by
  intro E K
  simp only [cc0__fused_body_eq_skeleton]; unfold cc0__fused_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ inb_S512x128_S512x128_0_0 _ _).trans ?_
    dsimp only [runB.sl.r, runB.sl.r_1]
    rw [load_full harg2 x0 inb_S4000x128_S4000x128_0_0, load_full harg3 x1 inb_S4000x4_S4000x4_0_0, load_full harg4 x2 inb_S512x128_S512x128_0_0]
    rfl
  isplitl [H3]
  · iexists _; isplitr; swap; · iexact H3
    ipureintro
    refine (View.read_writes_full _ _ inb_S512x1_S512x1_0_0 _ _).trans ?_
    dsimp only [runB.sl.r]
    rw [load_full harg2 x0 inb_S4000x128_S4000x128_0_0, load_full harg3 x1 inb_S4000x4_S4000x4_0_0, load_full harg5 x3 inb_S512x1_S512x1_0_0]
    rfl
  isplitl [H4]
  · iexists _; isplitr; · ipureintro; exact harg6.read_unread _
    iexact H4
  isplitl [H5]
  · iexists _; isplitr; · ipureintro; exact harg7.read_unread _
    iexact H5
  iexists _; isplitr; · ipureintro; exact harg8.read_unread _
  iexact H6

end Cert.KernelIdeal.Kern

end
-- ==== Proof.Kern.RunC.lean ====
/- The body at the first point of the second pass: it makes the centroids, zeroes the distances and accumulates one block of rows. -/
module

public import proofs.«01_k».proof.Proof.Kern.RunB
public import Idealize.ShloMosaic.Lib.Exec

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 1000000 in
/-- The body at the first point of the second pass: it makes the centroids, zeroes the distances and accumulates one block of rows. -/
theorem runC (c : Dev nD) (i : grid0.Coords) (arg2 : Memref sig .tc .vmem S4000x128 .f32) (harg2 : arg2.IsWhole) (arg3 : Memref sig .tc .vmem S4000x4 .i32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S4x128 .f32) (harg6 : arg6.IsWhole) (arg7 : Memref sig .tc .vmem S4x4 .f32) (harg7 : arg7.IsWhole)
    (arg8 : Memref sig .tc .vmem S512x128 .bf16) (harg8 : arg8.IsWhole)
    (hc0 : ¬cond0_0 i) (hc1 : ¬cond0_1 i) (hc2 : cond0_2 i) (hc3 : cond0_3 i) (hc4 : ¬cond0_4 i)
    (x0 : Vec F S4000x128 .f32) (x1 : Vec F S4000x4 .i32) (x2 : Vec F S512x128 .f32) (x3 : Vec F S512x1 .f32) (x4 : Vec F S4x128 .f32) (x5 : Vec F S4x4 .f32) (x6 : Vec F S512x128 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepI x0 x1 (k0_pay5 x2 x3) k0_pay6) ∗ owns (c : Thread nD τ) arg7 fullShare x5 ∗ owns (c : Thread nD τ) arg8 fullShare (k0_pay5 x2 x3)) -∗ K ⟨⟩))
        ⊢ wp frame (wpE (defs₀ (F := F)) Variants.none c none) E (cc0__fused_body i arg2 harg2 arg3 harg3 arg4 harg4 arg5 harg5 arg6 harg6 arg7 harg7 arg8 harg8) K := by
  intro E K
  simp only [cc0__fused_body_eq_skeleton]; unfold cc0__fused_body_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    dsimp only [runC.sl.H4_4, runC.sl.H4_3, runC.sl.H4_2, runC.sl.H4_1, runC.sl.H6_1, runC.sl.r, runC.sl.r_1, runC.sl.r_2, runC.sl.r_3, runC.sl.r_4, runC.sl.cst_53, runC.sl.cst_54, runC.sl.v174, runC.sl.v150, runC.sl.v135, runC.sl.v111, runC.sl.v96, runC.sl.v72, runC.sl.v57, runC.sl.v33]
    rw [View.read_writes_cons_put _ _ _ _ _ rfl, View.read_writes_cons_put _ _ _ _ _ rfl, View.read_writes_cons_put _ _ _ _ _ rfl,
      View.read_writes_cons_put _ _ _ _ _ rfl, View.read_writes_full _ _ inb_S4x128_S4x128_0_0]
    rw [load_full harg2 x0 inb_S4000x128_S4000x128_0_0, load_full harg3 x1 inb_S4000x4_S4000x4_0_0, load_full harg4 x2 inb_S512x128_S512x128_0_0, load_full harg5 x3 inb_S512x1_S512x1_0_0]
    rw [cov_full arg8 inb_S512x128_S512x128_0_0 inb_S512x128_S128x128_0_0, cov_full arg8 inb_S512x128_S512x128_0_0 inb_S512x128_S128x128_128_0, cov_full arg8 inb_S512x128_S512x128_0_0 inb_S512x128_S128x128_256_0, cov_full arg8 inb_S512x128_S512x128_0_0 inb_S512x128_S128x128_384_0]
    rw [cov_row (show (2 : ℕ) ≠ 3 by decide) _ _ inb_S4x128_S1x128_2_0 inb_S4x128_S1x128_3_0, cov_row (show (1 : ℕ) ≠ 3 by decide) _ _ inb_S4x128_S1x128_1_0 inb_S4x128_S1x128_3_0, cov_row (show (0 : ℕ) ≠ 3 by decide) _ _ inb_S4x128_S1x128_0_0 inb_S4x128_S1x128_3_0, cov_row (show (1 : ℕ) ≠ 2 by decide) _ _ inb_S4x128_S1x128_1_0 inb_S4x128_S1x128_2_0, cov_row (show (0 : ℕ) ≠ 2 by decide) _ _ inb_S4x128_S1x128_0_0 inb_S4x128_S1x128_2_0, cov_row (show (0 : ℕ) ≠ 1 by decide) _ _ inb_S4x128_S1x128_0_0 inb_S4x128_S1x128_1_0]
    rw [cov_full arg6 inb_S4x128_S4x128_0_0 inb_S4x128_S1x128_0_0, cov_full arg6 inb_S4x128_S4x128_0_0 inb_S4x128_S1x128_1_0, cov_full arg6 inb_S4x128_S4x128_0_0 inb_S4x128_S1x128_2_0, cov_full arg6 inb_S4x128_S4x128_0_0 inb_S4x128_S1x128_3_0]
    rfl
  isplitl [H5]
  · iexists _; isplitr; · ipureintro; exact harg7.read_unread _
    iexact H5
  iexists _; isplitr; swap; · iexact H6
  ipureintro
  dsimp only [runC.sl.H6_1]
  refine (View.read_writes_full _ _ inb_S512x128_S512x128_0_0 _ _).trans ?_
  rw [load_full harg4 x2 inb_S512x128_S512x128_0_0, load_full harg5 x3 inb_S512x1_S512x1_0_0]

end Cert.KernelIdeal.Kern

end
-- ==== Proof.Kern.RunD.lean ====
/- The body at a point of the second pass after its first: it accumulates the distances of one block of rows. -/
module

public import proofs.«01_k».proof.Proof.Kern.RunC
public import Idealize.ShloMosaic.Lib.Exec

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 1000000 in
/-- The body at a point of the second pass after its first: it accumulates the distances of one block of rows. -/
theorem runD (c : Dev nD) (i : grid0.Coords) (arg2 : Memref sig .tc .vmem S4000x128 .f32) (harg2 : arg2.IsWhole) (arg3 : Memref sig .tc .vmem S4000x4 .i32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S4x128 .f32) (harg6 : arg6.IsWhole) (arg7 : Memref sig .tc .vmem S4x4 .f32) (harg7 : arg7.IsWhole)
    (arg8 : Memref sig .tc .vmem S512x128 .bf16) (harg8 : arg8.IsWhole)
    (hc0 : ¬cond0_0 i) (hc1 : ¬cond0_1 i) (hc2 : ¬cond0_2 i) (hc3 : cond0_3 i) (hc4 : ¬cond0_4 i)
    (x0 : Vec F S4000x128 .f32) (x1 : Vec F S4000x4 .i32) (x2 : Vec F S512x128 .f32) (x3 : Vec F S512x1 .f32) (x4 : Vec F S4x128 .f32) (x5 : Vec F S4x4 .f32) (x6 : Vec F S512x128 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepI x0 x1 x6 x4) ∗ owns (c : Thread nD τ) arg7 fullShare x5 ∗ owns (c : Thread nD τ) arg8 fullShare x6) -∗ K ⟨⟩))
        ⊢ wp frame (wpE (defs₀ (F := F)) Variants.none c none) E (cc0__fused_body i arg2 harg2 arg3 harg3 arg4 harg4 arg5 harg5 arg6 harg6 arg7 harg7 arg8 harg8) K := by
  intro E K
  simp only [cc0__fused_body_eq_skeleton]; unfold cc0__fused_body_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    dsimp only [runD.sl.r, runD.sl.r_1, runD.sl.r_2, runD.sl.r_3, runD.sl.r_4, runD.sl.v174, runD.sl.v135, runD.sl.v96, runD.sl.cst_53, runD.sl.cst_54]
    rw [View.read_writes_cons_put _ _ _ _ _ rfl, View.read_writes_cons_put _ _ _ _ _ rfl, View.read_writes_cons_put _ _ _ _ _ rfl,
      View.read_writes_cons_put _ _ _ _ _ rfl, View.writes_nil, hf4]
    rw [load_full harg2 x0 inb_S4000x128_S4000x128_0_0, load_full harg3 x1 inb_S4000x4_S4000x4_0_0,
      load_window harg8 x6 inb_S512x128_S128x128_0_0, load_window harg8 x6 inb_S512x128_S128x128_128_0,
      load_window harg8 x6 inb_S512x128_S128x128_256_0, load_window harg8 x6 inb_S512x128_S128x128_384_0,
      load_window harg6 x4 inb_S4x128_S1x128_0_0, load_window harg6 x4 inb_S4x128_S1x128_1_0,
      load_window harg6 x4 inb_S4x128_S1x128_2_0, load_window harg6 x4 inb_S4x128_S1x128_3_0]
    rfl
  isplitl [H5]
  · iexists _; isplitr; · ipureintro; exact harg7.read_unread _
    iexact H5
  iexists _; isplitr; · ipureintro; exact harg8.read_unread _
  iexact H6

end Cert.KernelIdeal.Kern

end
-- ==== Proof.Kern.RunE.lean ====
/- The body at the last point: it accumulates the distances of the last block of rows and stores the statistics. -/
module

public import proofs.«01_k».proof.Proof.Kern.RunD
public import Idealize.ShloMosaic.Lib.Exec

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.VecWindow (window put)

set_option maxHeartbeats 1000000 in
/-- The body at the last point: it accumulates the distances of the last block of rows and stores the statistics. -/
theorem runE (c : Dev nD) (i : grid0.Coords) (arg2 : Memref sig .tc .vmem S4000x128 .f32) (harg2 : arg2.IsWhole) (arg3 : Memref sig .tc .vmem S4000x4 .i32) (harg3 : arg3.IsWhole)
    (arg4 : Memref sig .tc .vmem S512x128 .f32) (harg4 : arg4.IsWhole) (arg5 : Memref sig .tc .vmem S512x1 .f32) (harg5 : arg5.IsWhole)
    (arg6 : Memref sig .tc .vmem S4x128 .f32) (harg6 : arg6.IsWhole) (arg7 : Memref sig .tc .vmem S4x4 .f32) (harg7 : arg7.IsWhole)
    (arg8 : Memref sig .tc .vmem S512x128 .bf16) (harg8 : arg8.IsWhole)
    (hc0 : ¬cond0_0 i) (hc1 : ¬cond0_1 i) (hc2 : ¬cond0_2 i) (hc3 : cond0_3 i) (hc4 : cond0_4 i)
    (x0 : Vec F S4000x128 .f32) (x1 : Vec F S4000x4 .i32) (x2 : Vec F S512x128 .f32) (x3 : Vec F S512x1 .f32) (x4 : Vec F S4x128 .f32) (x5 : Vec F S4x4 .f32) (x6 : Vec F S512x128 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepI x0 x1 x6 x4) ∗ owns (c : Thread nD τ) arg7 fullShare (stepE x2 x3 (stepI x0 x1 x6 x4) x5) ∗ owns (c : Thread nD τ) arg8 fullShare x6) -∗ K ⟨⟩))
        ⊢ wp frame (wpE (defs₀ (F := F)) Variants.none c none) E (cc0__fused_body i arg2 harg2 arg3 harg3 arg4 harg4 arg5 harg5 arg6 harg6 arg7 harg7 arg8 harg8) K := by
  intro E K
  simp only [cc0__fused_body_eq_skeleton]; unfold cc0__fused_body_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    have hpieces : ∀ f, arg6.view.read (Elt F) (arg6.view.writes (Elt F) f (runE.sl.H4_4 c arg2 harg2 arg3 harg3 arg6 harg6 arg8 harg8 x0 x1 x4 x6))
        = rows4 (arg6.view.read (Elt F) f) (k0_pay11 x0 x1 (window (s := S512x128) x6 ![0, 0] S128x128.size inb_S512x128_S128x128_0_0)
          (window (s := S4x128) x4 ![0, 0] S1x128.size inb_S4x128_S1x128_0_0)) (k0_pay12 (k0_pay10 x0) x1 (window (s := S512x128) x6 ![128, 0] S128x128.size inb_S512x128_S128x128_128_0)
          (window (s := S4x128) x4 ![1, 0] S1x128.size inb_S4x128_S1x128_1_0)) (k0_pay14 (k0_pay10 x0) x1 (k0_pay13 x1) (window (s := S512x128) x6 ![256, 0] S128x128.size inb_S512x128_S128x128_256_0)
          (window (s := S4x128) x4 ![2, 0] S1x128.size inb_S4x128_S1x128_2_0)) (k0_pay7 (k0_pay10 x0) x1 (k0_pay15 x1) (Scalar.ofBits .bf16 0x3F80#16) (Scalar.ofBits .bf16 0x0000#16)
          (window (s := S512x128) x6 ![384, 0] S128x128.size inb_S512x128_S128x128_384_0)
          (window (s := S4x128) x4 ![3, 0] S1x128.size inb_S4x128_S1x128_3_0)) := by
      intro f
      dsimp only [runE.sl.H4_4, runE.sl.r, runE.sl.r_1, runE.sl.r_2, runE.sl.r_3, runE.sl.r_4, runE.sl.cst_53, runE.sl.cst_54, runE.sl.v174, runE.sl.v135, runE.sl.v96]
      rw [View.read_writes_cons_put _ _ _ _ _ rfl, View.read_writes_cons_put _ _ _ _ _ rfl, View.read_writes_cons_put _ _ _ _ _ rfl,
      View.read_writes_cons_put _ _ _ _ _ rfl, View.writes_nil]
      rw [load_full harg2 x0 inb_S4000x128_S4000x128_0_0, load_full harg3 x1 inb_S4000x4_S4000x4_0_0,
      load_window harg8 x6 inb_S512x128_S128x128_0_0, load_window harg8 x6 inb_S512x128_S128x128_128_0,
      load_window harg8 x6 inb_S512x128_S128x128_256_0, load_window harg8 x6 inb_S512x128_S128x128_384_0,
      load_window harg6 x4 inb_S4x128_S1x128_0_0, load_window harg6 x4 inb_S4x128_S1x128_1_0,
      load_window harg6 x4 inb_S4x128_S1x128_2_0, load_window harg6 x4 inb_S4x128_S1x128_3_0]
      rfl
    rw [hpieces, hf4]
    rfl
  isplitl [H5]
  · iexists _; isplitr; swap; · iexact H5
    ipureintro
    have hpieces : ∀ f, arg6.view.read (Elt F) (arg6.view.writes (Elt F) f (runE.sl.H4_4 c arg2 harg2 arg3 harg3 arg6 harg6 arg8 harg8 x0 x1 x4 x6))
        = rows4 (arg6.view.read (Elt F) f) (k0_pay11 x0 x1 (window (s := S512x128) x6 ![0, 0] S128x128.size inb_S512x128_S128x128_0_0)
          (window (s := S4x128) x4 ![0, 0] S1x128.size inb_S4x128_S1x128_0_0)) (k0_pay12 (k0_pay10 x0) x1 (window (s := S512x128) x6 ![128, 0] S128x128.size inb_S512x128_S128x128_128_0)
          (window (s := S4x128) x4 ![1, 0] S1x128.size inb_S4x128_S1x128_1_0)) (k0_pay14 (k0_pay10 x0) x1 (k0_pay13 x1) (window (s := S512x128) x6 ![256, 0] S128x128.size inb_S512x128_S128x128_256_0)
          (window (s := S4x128) x4 ![2, 0] S1x128.size inb_S4x128_S1x128_2_0)) (k0_pay7 (k0_pay10 x0) x1 (k0_pay15 x1) (Scalar.ofBits .bf16 0x3F80#16) (Scalar.ofBits .bf16 0x0000#16)
          (window (s := S512x128) x6 ![384, 0] S128x128.size inb_S512x128_S128x128_384_0)
          (window (s := S4x128) x4 ![3, 0] S1x128.size inb_S4x128_S1x128_3_0)) := by
      intro f
      dsimp only [runE.sl.H4_4, runE.sl.r, runE.sl.r_1, runE.sl.r_2, runE.sl.r_3, runE.sl.r_4, runE.sl.cst_53, runE.sl.cst_54, runE.sl.v174, runE.sl.v135, runE.sl.v96]
      rw [View.read_writes_cons_put _ _ _ _ _ rfl, View.read_writes_cons_put _ _ _ _ _ rfl, View.read_writes_cons_put _ _ _ _ _ rfl,
      View.read_writes_cons_put _ _ _ _ _ rfl, View.writes_nil]
      rw [load_full harg2 x0 inb_S4000x128_S4000x128_0_0, load_full harg3 x1 inb_S4000x4_S4000x4_0_0,
      load_window harg8 x6 inb_S512x128_S128x128_0_0, load_window harg8 x6 inb_S512x128_S128x128_128_0,
      load_window harg8 x6 inb_S512x128_S128x128_256_0, load_window harg8 x6 inb_S512x128_S128x128_384_0,
      load_window harg6 x4 inb_S4x128_S1x128_0_0, load_window harg6 x4 inb_S4x128_S1x128_1_0,
      load_window harg6 x4 inb_S4x128_S1x128_2_0, load_window harg6 x4 inb_S4x128_S1x128_3_0]
      rfl
    have hy0 : runE.sl.v54 c arg2 harg2 arg3 harg3 arg6 harg6 arg8 harg8 x0 x1 x4 x6
        = window (s := S4x128) (stepI x0 x1 x6 x4) ![0, 0] S1x128.size inb_S4x128_S1x128_0_0 := by
      dsimp only [runE.sl.v54]
      rw [cov_window, hpieces]
      exact (rows4_0 _ _ _ _ _).trans (rows4_0 _ _ _ _ _).symm
    have hy1 : runE.sl.v185 c arg2 harg2 arg3 harg3 arg6 harg6 arg8 harg8 x0 x1 x4 x6
        = window (s := S4x128) (stepI x0 x1 x6 x4) ![1, 0] S1x128.size inb_S4x128_S1x128_1_0 := by
      dsimp only [runE.sl.v185]
      rw [cov_window, hpieces]
      exact (rows4_1 _ _ _ _ _).trans (rows4_1 _ _ _ _ _).symm
    have hy2 : runE.sl.v316 c arg2 harg2 arg3 harg3 arg6 harg6 arg8 harg8 x0 x1 x4 x6
        = window (s := S4x128) (stepI x0 x1 x6 x4) ![2, 0] S1x128.size inb_S4x128_S1x128_2_0 := by
      dsimp only [runE.sl.v316]
      rw [cov_window, hpieces]
      exact (rows4_2 _ _ _ _ _).trans (rows4_2 _ _ _ _ _).symm
    have hy3 : runE.sl.v447 c arg2 harg2 arg3 harg3 arg6 harg6 arg8 harg8 x0 x1 x4 x6
        = window (s := S4x128) (stepI x0 x1 x6 x4) ![3, 0] S1x128.size inb_S4x128_S1x128_3_0 := by
      dsimp only [runE.sl.v447]
      rw [cov_window, hpieces]
      exact (rows4_3 _ _ _ _ _).trans (rows4_3 _ _ _ _ _).symm
    dsimp only [runE.sl.r_51, runE.sl.r_27, runE.sl.r_6, runE.sl.r_13, runE.sl.r_21, runE.sl.r_45, runE.sl.r_31, runE.sl.r_18, runE.sl.r_11, runE.sl.r_17, runE.sl.r_14, runE.sl.r_10, runE.sl.r_43, runE.sl.cst_54_1, runE.sl.v150, runE.sl.r_22, runE.sl.r_53, runE.sl.r_39, runE.sl.r_42, runE.sl.r_47, runE.sl.r_40, runE.sl.r_38, runE.sl.r_29, runE.sl.r_28, runE.sl.r_32, runE.sl.r_50, runE.sl.r_25, runE.sl.r_44, runE.sl.r_19, runE.sl.r_46, runE.sl.r_34, runE.sl.r_9, runE.sl.r_24, runE.sl.r_30, runE.sl.r_33, runE.sl.r_41, runE.sl.r_35, runE.sl.r_26, runE.sl.cst_21, runE.sl.r_23, runE.sl.v65, runE.sl.r_37, runE.sl.r_15, runE.sl.r_36, runE.sl.r_8, runE.sl.r_20, runE.sl.r_48, runE.sl.r_16, runE.sl.r_54, runE.sl.r_49, runE.sl.r_12, runE.sl.r_7, runE.sl.r_52, runE.sl.r_5]
    rw [hy0, hy1, hy2, hy3]
    rw [View.read_writes_cons_put _ _ _ _ _ rfl, View.read_writes_cons_put _ _ _ _ _ rfl, View.read_writes_cons_put _ _ _ _ _ rfl,
      View.read_writes_cons_put _ _ _ _ _ rfl, View.writes_nil, hf5]
    rw [load_window harg5 x3 inb_S512x1_S128x1_0_0, load_window harg4 x2 inb_S512x128_S128x128_0_0, load_window harg5 x3 inb_S512x1_S128x1_128_0, load_window harg4 x2 inb_S512x128_S128x128_128_0, load_window harg5 x3 inb_S512x1_S128x1_256_0, load_window harg4 x2 inb_S512x128_S128x128_256_0, load_window harg5 x3 inb_S512x1_S128x1_384_0, load_window harg4 x2 inb_S512x128_S128x128_384_0]
    rfl
  iexists _; isplitr; · ipureintro; exact harg8.read_unread _
  iexact H6

end Cert.KernelIdeal.Kern

end
-- ==== Proof.Kern.Body.lean ====
/- The body at every point, on the buffers the trajectories name. -/
module

public import proofs.«01_k».proof.Proof.Kern.Traj
public import proofs.«01_k».proof.Proof.Kern.RunE

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A buffer the point stores into is left at its trajectory. -/
theorem leaves_live (c : Dev nD) (t : Fin cfg0.N) (w : Fin cfg0.W) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- So is one written back. -/
theorem leaves_flush (c : Dev nD) (t : Fin cfg0.N) (w : Fin cfg0.W) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

theorem PhiS_early (c : Dev nD) (n : ℕ) (h : n ≤ 40) :
    PhiS m c n = iprop(iprop((∃ d, owns (c : Thread nD τ) scM0_0 fullShare d)) ∗ (∃ r, prngReg c r)) := by
  unfold PhiS; rw [if_pos h, PhiA0_eq]
theorem PhiS_late (c : Dev nD) (n : ℕ) (h : 40 < n) :
    PhiS m c n = iprop(owns (c : Thread nD τ) scM0_0 fullShare (trK (xs m c) (asn m c)) ∗ (∃ r, prngReg c r)) := by
  unfold PhiS; rw [if_neg (Nat.not_le.mpr h)]

set_option maxHeartbeats 1000000 in
/-- The body at a point of case A. -/
theorem body_A (c : Dev nD) (t : Fin cfg0.N) (h : t.val = 0) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  have e2 : trS (xs m c) (asn m c) t.val = stepS (iblk m c 0 t) (iblk m c 1 t) k0_pay1 := by
    rw [← xs_val m c t, ← asn_val m c t, h]; rfl
  have e3 : trC (xs m c) (asn m c) t.val = stepC (iblk m c 0 t) (iblk m c 1 t) k0_pay2 := by
    rw [← xs_val m c t, ← asn_val m c t, h]; rfl
  unfold bodyPre bodyPost bodyAt0
  simp only [before0_0, before0_1]
  rw [Phi_cast, Phi_succ, PhiS_early m c _ (by omega), PhiS_early m c _ (by omega),
    show (dats m 0 c).owesAt () t.succ = (dats m 0 c).owesAt () t.castSucc from rfl]
  rw [leaves_live m c t 0 rfl, leaves_live m c t 1 rfl, after0_0, after0_1,
    leaves_live m c t 2 ((idle0_2 t).trans (decide_eq_false (by omega))), after0_2,
    leaves_live m c t 3 ((idle0_3 t).trans (decide_eq_false (by omega))), after0_3,
    Dat.leavesExact_idle _ 4 t ((idle0_4 t).trans (decide_eq_true (by omega))) (noflush flush0_4 t (by omega)),
    Dat.leavesExact_idle _ 5 t ((idle0_5 t).trans (decide_eq_true (by omega))) (noflush flush0_5 t (by omega))]
  rw [e2, e3]
  iintro ⟨⟨⟨%ds, HS⟩, Hg⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (fun h => absurd ((hcond0_4 t).mp h) (by omega))
    (iblk m c 0 t) (iblk m c 1 t) ((dats m 0 c).before 2 t d2) ((dats m 0 c).before 3 t d3) ((dats m 0 c).before 4 t d4) ((dats m 0 c).before 5 t d5) ds Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexists d4; iexact H4
  iexists d5; iexact H5

set_option maxHeartbeats 1000000 in
/-- The body at a point of case B. -/
theorem body_B (c : Dev nD) (t : Fin cfg0.N) (h : t.val ≠ 0) (h' : t.val < 40) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  have e2 : trS (xs m c) (asn m c) t.val = stepS (iblk m c 0 t) (iblk m c 1 t) (trS (xs m c) (asn m c) (t.val - 1)) := by
    rw [trS_step _ _ h h', xs_val, asn_val]
  have e3 : trC (xs m c) (asn m c) t.val = stepC (iblk m c 0 t) (iblk m c 1 t) (trC (xs m c) (asn m c) (t.val - 1)) := by
    rw [trC_step _ _ h h', xs_val, asn_val]
  unfold bodyPre bodyPost bodyAt0
  simp only [before0_0, before0_1, before0_2 m c t (show t.val ≠ 0 by omega), before0_3 m c t (show t.val ≠ 0 by omega)]
  rw [Phi_cast, Phi_succ, PhiS_early m c _ (by omega), PhiS_early m c _ (by omega),
    show (dats m 0 c).owesAt () t.succ = (dats m 0 c).owesAt () t.castSucc from rfl]
  rw [leaves_live m c t 0 rfl, leaves_live m c t 1 rfl, after0_0, after0_1,
    leaves_live m c t 2 ((idle0_2 t).trans (decide_eq_false (by omega))), after0_2,
    leaves_live m c t 3 ((idle0_3 t).trans (decide_eq_false (by omega))), after0_3,
    Dat.leavesExact_idle _ 4 t ((idle0_4 t).trans (decide_eq_true (by omega))) (noflush flush0_4 t (by omega)),
    Dat.leavesExact_idle _ 5 t ((idle0_5 t).trans (decide_eq_true (by omega))) (noflush flush0_5 t (by omega))]
  rw [e2, e3]
  iintro ⟨⟨⟨%ds, HS⟩, Hg⟩, Ho, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (fun h => absurd ((hcond0_4 t).mp h) (by omega))
    (iblk m c 0 t) (iblk m c 1 t) (trS (xs m c) (asn m c) (t.val - 1)) (trC (xs m c) (asn m c) (t.val - 1)) ((dats m 0 c).before 4 t d4) ((dats m 0 c).before 5 t d5) ds Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexists d4; iexact H4
  iexists d5; iexact H5

set_option maxHeartbeats 1000000 in
/-- The body at a point of case C. -/
theorem body_C (c : Dev nD) (t : Fin cfg0.N) (h : t.val = 40) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  have e6 : trK (xs m c) (asn m c) = k0_pay5 (trS (xs m c) (asn m c) (t.val - 1)) (trC (xs m c) (asn m c) (t.val - 1)) := by
    unfold trK; rw [h]
  have e4 : trI (xs m c) (asn m c) t.val = stepI (iblk m c 0 t) (iblk m c 1 t) (k0_pay5 (trS (xs m c) (asn m c) (t.val - 1)) (trC (xs m c) (asn m c) (t.val - 1))) k0_pay6 := by
    rw [trI_step _ _ (by omega), xs_val, asn_val, trI_zero _ _ (by omega), e6]
  unfold bodyPre bodyPost bodyAt0
  simp only [before0_0, before0_1, before0_2 m c t (show t.val ≠ 0 by omega), before0_3 m c t (show t.val ≠ 0 by omega)]
  rw [Phi_cast, Phi_succ, PhiS_early m c _ (by omega), PhiS_late m c _ (by omega),
    show (dats m 0 c).owesAt () t.succ = (dats m 0 c).owesAt () t.castSucc from rfl]
  rw [leaves_live m c t 0 rfl, leaves_live m c t 1 rfl, after0_0, after0_1,
    Dat.leavesExact_idle _ 2 t ((idle0_2 t).trans (decide_eq_true (by omega))) (noflush flush0_2 t (by omega)),
    Dat.leavesExact_idle _ 3 t ((idle0_3 t).trans (decide_eq_true (by omega))) (noflush flush0_3 t (by omega)),
    leaves_live m c t 4 ((idle0_4 t).trans (decide_eq_false (by omega))), after0_4,
    Dat.leavesExact_idle _ 5 t ((idle0_5 t).trans (decide_eq_true (by omega))) (noflush flush0_5 t (by omega))]
  rw [e4, e6]
  iintro ⟨⟨⟨%ds, HS⟩, Hg⟩, Ho, ⟨%d0, H0⟩, ⟨%d1, H1⟩, ⟨%d2, H2⟩, ⟨%d3, H3⟩, ⟨%d4, H4⟩, ⟨%d5, H5⟩⟩
  iapply (runC c (grid0.coords t) _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) (fun h => absurd ((hcond0_4 t).mp h) (by omega))
    (iblk m c 0 t) (iblk m c 1 t) (trS (xs m c) (asn m c) (t.val - 1)) (trC (xs m c) (asn m c) (t.val - 1)) ((dats m 0 c).before 4 t d4) ((dats m 0 c).before 5 t d5) ds Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexists d2; rw [before0_2 m c t (by omega) d2]; iexact H2
  isplitl [H3]; · iexists d3; rw [before0_3 m c t (by omega) d3]; iexact H3
  isplitl [H4]; · iexact H4
  iexists d5; iexact H5

set_option maxHeartbeats 1000000 in
/-- The body at a point of case D. -/
theorem body_D (c : Dev nD) (t : Fin cfg0.N) (h : 40 < t.val) (h' : t.val < 79) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  have e4 : trI (xs m c) (asn m c) t.val = stepI (iblk m c 0 t) (iblk m c 1 t) (trK (xs m c) (asn m c)) (trI (xs m c) (asn m c) (t.val - 1)) := by
    rw [trI_step _ _ (by omega), xs_val, asn_val]
  unfold bodyPre bodyPost bodyAt0
  simp only [before0_0, before0_1, before0_2 m c t (show t.val ≠ 0 by omega), before0_3 m c t (show t.val ≠ 0 by omega), before0_4 m c t (show 40 < t.val by omega)]
  rw [Phi_cast, Phi_succ, PhiS_late m c _ (by omega), PhiS_late m c _ (by omega),
    show (dats m 0 c).owesAt () t.succ = (dats m 0 c).owesAt () t.castSucc from rfl]
  rw [leaves_live m c t 0 rfl, leaves_live m c t 1 rfl, after0_0, after0_1,
    Dat.leavesExact_idle _ 2 t ((idle0_2 t).trans (decide_eq_true (by omega))) (noflush flush0_2 t (by omega)),
    Dat.leavesExact_idle _ 3 t ((idle0_3 t).trans (decide_eq_true (by omega))) (noflush flush0_3 t (by omega)),
    leaves_live m c t 4 ((idle0_4 t).trans (decide_eq_false (by omega))), after0_4,
    Dat.leavesExact_idle _ 5 t ((idle0_5 t).trans (decide_eq_true (by omega))) (noflush flush0_5 t (by omega))]
  rw [e4]
  iintro ⟨⟨HS, Hg⟩, Ho, ⟨%d0, H0⟩, ⟨%d1, H1⟩, ⟨%d2, H2⟩, ⟨%d3, H3⟩, ⟨%d4, H4⟩, ⟨%d5, H5⟩⟩
  iapply (runD c (grid0.coords t) _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega))
    (iblk m c 0 t) (iblk m c 1 t) (trS (xs m c) (asn m c) (t.val - 1)) (trC (xs m c) (asn m c) (t.val - 1)) (trI (xs m c) (asn m c) (t.val - 1)) ((dats m 0 c).before 5 t d5) (trK (xs m c) (asn m c)) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexists d2; rw [before0_2 m c t (by omega) d2]; iexact H2
  isplitl [H3]; · iexists d3; rw [before0_3 m c t (by omega) d3]; iexact H3
  isplitl [H4]; · iexact H4
  iexists d5; iexact H5

set_option maxHeartbeats 1000000 in
/-- The body at a point of case E. -/
theorem body_E (c : Dev nD) (t : Fin cfg0.N) (h : t.val = 79) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  have e4 : trI (xs m c) (asn m c) t.val = stepI (iblk m c 0 t) (iblk m c 1 t) (trK (xs m c) (asn m c)) (trI (xs m c) (asn m c) (t.val - 1)) := by
    rw [trI_step _ _ (by omega), xs_val, asn_val]
  have e2 : trS (xs m c) (asn m c) t.val = trS (xs m c) (asn m c) (t.val - 1) := trS_keep _ _ (by omega)
  have e3 : trC (xs m c) (asn m c) t.val = trC (xs m c) (asn m c) (t.val - 1) := trC_keep _ _ (by omega)
  have e5 : ∀ e, trE (xs m c) (asn m c) = stepE (trS (xs m c) (asn m c) (t.val - 1)) (trC (xs m c) (asn m c) (t.val - 1)) (stepI (iblk m c 0 t) (iblk m c 1 t) (trK (xs m c) (asn m c)) (trI (xs m c) (asn m c) (t.val - 1))) e := fun e => by
    rw [← e2, ← e3, ← e4, h]; exact stepE_any _ _ _ _ _
  unfold bodyPre bodyPost bodyAt0
  simp only [before0_0, before0_1, before0_2 m c t (show t.val ≠ 0 by omega), before0_3 m c t (show t.val ≠ 0 by omega), before0_4 m c t (show 40 < t.val by omega)]
  rw [Phi_cast, Phi_succ, PhiS_late m c _ (by omega), PhiS_late m c _ (by omega),
    show (dats m 0 c).owesAt () t.succ = (dats m 0 c).owesAt () t.castSucc from rfl]
  rw [leaves_live m c t 0 rfl, leaves_live m c t 1 rfl, after0_0, after0_1,
    leaves_flush m c t 2 ((idle0_2 t).trans (decide_eq_true (by omega))) (doflush flush0_2 t (by omega)), after0_2,
    leaves_flush m c t 3 ((idle0_3 t).trans (decide_eq_true (by omega))) (doflush flush0_3 t (by omega)), after0_3,
    leaves_live m c t 4 ((idle0_4 t).trans (decide_eq_false (by omega))), after0_4,
    leaves_live m c t 5 ((idle0_5 t).trans (decide_eq_false (by omega))), after0_5]
  rw [e2, e3, e4]
  iintro ⟨⟨HS, Hg⟩, Ho, ⟨%d0, H0⟩, ⟨%d1, H1⟩, ⟨%d2, H2⟩, ⟨%d3, H3⟩, ⟨%d4, H4⟩, ⟨%d5, H5⟩⟩
  iapply (runE c (grid0.coords t) _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega))
    (iblk m c 0 t) (iblk m c 1 t) (trS (xs m c) (asn m c) (t.val - 1)) (trC (xs m c) (asn m c) (t.val - 1)) (trI (xs m c) (asn m c) (t.val - 1)) ((dats m 0 c).before 5 t d5) (trK (xs m c) (asn m c)) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  rw [e5 ((dats m 0 c).before 5 t d5)]
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  by_cases h0 : t.val = 0
  · exact body_A m c t h0
  by_cases h1 : t.val < 40
  · exact body_B m c t h0 h1
  by_cases h2 : t.val = 40
  · exact body_C m c t h2
  by_cases h3 : t.val < 79
  · exact body_D m c t (by omega) h3
  exact body_E m c t (by omega)

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Kern

end
-- ==== Proof.Kern.Launch.lean ====
/- The run of the whole program: its frame and the contents of its result. -/
module

public import proofs.«01_k».proof.Proof.Kern.Body
public import Idealize.ShloMosaic.Lib.Pipeline.ValueKit

@[expose] public section

set_option maxRecDepth 16384

noncomputable section

namespace Cert.KernelIdeal.Kern

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_first (c : Dev nD) : Pipeline.ΦA spec0 c ⊢ (dats m 0 c).Φ 0 := by
  have e : (dats m 0 c).Φ 0 = Pipeline.ΦA spec0 c := by
    dsimp only [dats]
    show PhiS m c 0 = _
    unfold PhiS; rw [if_pos (by decide)]
  rw [e]

theorem Phi_last (c : Dev nD) : (dats m 0 c).Φ (Fin.last cfg0.N) ⊢ Pipeline.ΦA spec0 c := by
  have e : (dats m 0 c).Φ (Fin.last cfg0.N) = PhiS m c 80 := by
    dsimp only [dats]
    exact congrArg (PhiS m c) (show cfg0.N = 80 from N_0)
  rw [e, PhiS_late m c 80 (by decide), PhiA0_eq]
  iintro ⟨HS, Hg⟩
  isplitl [HS]
  · iexists _; iexact HS
  iexact Hg

set_option backward.isDefEq.respectTransparency.types false in
set_option maxHeartbeats 800000 in
/-- The launch: every weakly fair execution ends with the arrays as the trajectories say and the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_first m) (hout := Phi_last m) (hQ' := fun _ h => h)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The statistics array at the end: what the last point stored. -/
theorem arr_E (c : Dev nD) : (dats m 0 c).arrAt 5 cfg0.N = trE (xs m c) (asn m c) := by
  refine (dats m 0 c).arrAt_eq_of_after_last 5 (pt 79) (by decide +kernel) _ fun j => ?_
  rw [after0_5]
  rfl

/-- The result: the statistics, repeated for every row. -/
def resultOf (e : Vec F S4x4 .f32) : Vec F S160000x4x4 .f32 :=
  broadcastInDim S160000x4x4 ![0, 1, 2] bcast_S1x4x4_S160000x4x4_0_1_2 (broadcastInDim S1x4x4 ![1, 2] bcast_S4x4_S1x4x4_1_2 e)

theorem tail_v2 (c : Dev nD) : Pipeline.afterTail₀ cfgs (dats m) 0 (V0 m) [hostOps1] c main_v2 = resultOf (trE (xs m c) (asn m c)) := by
  unfold Pipeline.afterTail₀
  simp only [List.flatten_cons, List.flatten_nil, List.append_nil, StableHlo.after_cons, StableHlo.after_nil]
  rw [StableHlo.unary_result, StableHlo.unary_result]
  have h := Pipeline.withArrays_arr (τ := τ) spec0 launch0.win.arr_inj c (V0 m c) (fun w => (dats m 0 c).arrAt w cfg0.N) 5
  have h' : Pipeline.withArrays spec0 c (V0 m c) (fun w => (dats m 0 c).arrAt w cfg0.N) (Proc.devRef .tc main_v0_3) = trE (xs m c) (asn m c) :=
    h.trans (arr_E m c)
  unfold resultOf
  rw [h']

/-- The result array and the arguments at the end. -/
theorem value : θ_run defs (onTc (τ := τ) (main (F := F))) ⟨m, fun _ => 0, ρ⟩ (fun r => ∀ c : Dev nD,
      r.2.mem ((c.tc : Thread nD τ).loc main_v2) = resultOf (trE (xs m c) (asn m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2.1 c).2 main_v2 (by decide)).trans (tail_v2 m c), h.1.1 c⟩) (θ_run_and (frame m ρ) (run_main m ρ))

end Cert.KernelIdeal.Kern

end
-- ==== Proof.Printed.lean ====
/-
  The kernel as printed is, word for word, the idealised kernel's text; so its run is that text's run at bit-exact
  floats, and the frame proved at every reading of the floats is its frame.
-/
module

public import proofs.«01_k».proof.Defs
public import proofs.«01_k».proof.Proof.Gen.Kernel
public import proofs.«01_k».proof.Proof.Kern.Launch

@[expose] public section

noncomputable section

namespace Cert.Printed

open Idealize.ShloMosaic Idealize.ShloMosaic.TcCoe Idealize.SL.Sem

variable {F : FTy → Type} [FloatOps F]

/-- The two bodies are the same text. -/
theorem body_eq : Cert.Kernel.cc0__fused_body (F := F) = Cert.KernelIdeal.cc0__fused_body (F := F) := by
  unfold Cert.Kernel.cc0__fused_body Cert.KernelIdeal.cc0__fused_body
  rfl

/-- The two tables of bodies are the same. -/
theorem kernels_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    show Cert.Kernel.cc0__fused_body (F := F) _ _ _ _ _ _ _ _ _ _ _ _ _ _ _ = _
    rw [body_eq]
    rfl

/-- The two tables of every label are the same. -/
theorem defs_eq : Cert.Kernel.defs (F := F) = Cert.KernelIdeal.defs (F := F) := by
  unfold Cert.Kernel.defs Cert.KernelIdeal.defs
  exact congrArg (Pipeline.defs (Cert.Kernel.pcfgs (F := F))) kernels_eq

/-- The kernel as printed runs without fault and leaves its arguments unchanged and its counters at zero. -/
theorem frame : Cert.quiescent_Kernel := by
  intro m ρ _
  rw [defs_eq]
  exact Cert.KernelIdeal.Kern.frame (F := Bits) m ρ

end Cert.Printed

end
-- ==== Proof.Math.Pre.lean ====
/- What the precondition says: every feature is a real number and every label is below one hundred. -/
module

public import proofs.«01_k».proof.Pre_inputs_ok
public import Idealize.ShloMosaic.Lib.Pointwise
public import Idealize.ShloMosaic.Lib.ReduceAll

@[expose] public section

set_option maxRecDepth 16384

noncomputable section

namespace Cert.Pre_inputs_ok.Read

open Idealize.ShloMosaic Idealize.ShloMosaic.TcCoe Idealize.SL.Sem
open Cert.Pre_inputs_ok

/-- The side conditions of the precondition's operations. -/
instance facts : Cert.Pre_inputs_ok.Facts where
  bcast_S_S160000x128 := by decide
  reducesTo_S160000x128_S_d0_1 := by decide
  h_S_ := by decide
  bcast_S_S160000x4 := by decide
  reducesTo_S160000x4_S_d0_1 := by decide

instance : Subsingleton S_.Idx := ⟨fun a b => funext fun i => i.elim0⟩

/-- A word between zero and one hundred is a label. -/
theorem label_of (w : BitVec 32) (h0 : (0 : Int) ≤ w.toInt) (h1 : w.toInt < 100) : ∃ l : Fin 100, w = BitVec.ofNat 32 l.val := by
  have hw := w.isLt
  rw [BitVec.toInt_eq_toNat_cond] at h0 h1
  split_ifs at h0 h1 with h
  · refine ⟨⟨w.toNat, by omega⟩, ?_⟩
    rw [← BitVec.toNat_inj, BitVec.toNat_ofNat, Nat.mod_eq_of_lt (by omega)]
  · omega

/-- An extended real whose magnitude is below infinity is a real. -/
theorem real_of (v : EReal) (h : max v (-v) < ⊤) : ∃ r : ℝ, v = (r : EReal) := by
  induction v with
  | bot => simp at h
  | coe r => exact ⟨r, rfl⟩
  | top => simp at h

variable (x : FVec Ideal S160000x128 .f32) (a : IVec S160000x4 32) (h : Cert.Pre_inputs_ok.fn (F := Ideal) x a = fun _ => 1#1)
include h

theorem split : (∀ i, cmpf .olt (Host.absf x) (broadcastInDim S160000x128 ![] Facts.bcast_S_S160000x128 (constant (F := Ideal) S_ .f32 0x7F800000#32)) i = 1#1)
    ∧ (∀ i, cmpi .sge a (broadcastInDim S160000x4 ![] Facts.bcast_S_S160000x4 (constantI S_ 32 0#32)) i = 1#1)
    ∧ (∀ i, cmpi .slt a (broadcastInDim S160000x4 ![] Facts.bcast_S_S160000x4 (constantI S_ 32 100#32)) i = 1#1) := by
  have h' := congrFun h ix0
  dsimp only [Cert.Pre_inputs_ok.fn] at h'
  obtain ⟨h12, h3⟩ := IntOp.andi_eq_one.1 h'
  obtain ⟨h1, h2⟩ := IntOp.andi_eq_one.1 h12
  exact ⟨Host.reduce_andi_all _ _ _ _ _ h1, Host.reduce_andi_all _ _ _ _ _ h2, Host.reduce_andi_all _ _ _ _ _ h3⟩

theorem features (r : Fin 160000) (d : Fin 128) : ∃ v : ℝ, x (ix2 r d) = (v : EReal) := by
  have h1 := (split x a h).1 (ix2 r d)
  pointwise at h1
  have top_word : Ideal.ofBits .f32 0x7F800000#32 = ⊤ := by simp [Ideal.ofBits, Ideal.ieee]
  rw [top_word] at h1
  by_cases hlt : max (x (ix2 r d)) (-(x (ix2 r d))) < ⊤
  · exact real_of _ hlt
  · exact absurd (h1.symm.trans (congrArg BitVec.ofBool (decide_eq_false hlt))) (by decide)

theorem labels (r : Fin 160000) (c : Fin 4) : ∃ l : Fin 100, a (ix2 r c) = BitVec.ofNat 32 l.val := by
  have h2 := IntOp.cmpi_sge.1 ((split x a h).2.1 (ix2 r c))
  have h3 := IntOp.cmpi_slt.1 ((split x a h).2.2 (ix2 r c))
  exact label_of _ h2 h3

end Cert.Pre_inputs_ok.Read
-- ==== Proof.Math.Spec.lean ====
/- The statistics of one labelling, written over the reals; and what the sums, quotients and roots of extended reals are on reals. -/
module

public import Idealize.ShloMosaic.Lib.Pointwise

@[expose] public section

set_option maxRecDepth 16384

noncomputable section

namespace Cert.Spec

open Idealize.ShloMosaic

/-! ## Extended reals that are reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_ite (p : Prop) [Decidable p] (a b : ℝ) : (if p then (a : EReal) else (b : EReal)) = ((if p then a else b : ℝ) : EReal) := by
  split <;> rfl

theorem coe_max (a b : ℝ) : max (a : EReal) (b : EReal) = ((max a b : ℝ) : EReal) :=
  (EReal.coe_strictMono.monotone.map_max).symm

theorem div_real (a b : ℝ) (h : b ≠ 0) : Ideal.div (a : EReal) (b : EReal) = ((a / b : ℝ) : EReal) := by
  rw [Ideal.div_coe h, ← EReal.coe_mul, mul_one_div]

theorem sqrt_real (a : ℝ) (h : 0 ≤ a) : Ideal.sqrt (a : EReal) = ((Real.sqrt a : ℝ) : EReal) := by
  rw [Ideal.sqrt_coe, if_neg (not_lt.2 h)]

/-- The guarded root is the root: at zero both are zero. -/
theorem guarded_sqrt (a : ℝ) (h : 0 ≤ a) :
    (if (0 : EReal) < (a : EReal) then Ideal.sqrt (if (0 : EReal) < (a : EReal) then (a : EReal) else 1) else 0) = ((Real.sqrt a : ℝ) : EReal) := by
  by_cases hp : (0 : EReal) < (a : EReal)
  · rw [if_pos hp, if_pos hp, sqrt_real a h]
  · rw [if_neg hp]
    have : a = 0 := le_antisymm (by have := not_lt.1 hp; exact_mod_cast this) h
    subst this; simp

/-! ## The statistics -/

variable (lab : Fin 160000 → Fin 100) (X : Fin 160000 → Fin 128 → ℝ)

/-- How many rows have label `k`. -/
def cnt (k : Fin 100) : ℝ := ∑ r, if lab r = k then (1 : ℝ) else 0
/-- The sum of the rows with label `k`. -/
def tot (k : Fin 100) (d : Fin 128) : ℝ := ∑ r, if lab r = k then X r d else 0
/-- Their mean (the zero row where there are none). -/
def cent (k : Fin 100) (d : Fin 128) : ℝ := tot lab X k d / max (cnt lab k) 1
/-- The distance of row `r` to the mean row of its label. -/
def dist (r : Fin 160000) : ℝ := Real.sqrt (∑ d, (X r d - cent lab X (lab r) d) * (X r d - cent lab X (lab r) d))
/-- The sum of these distances over the rows with label `k`. -/
def spread (k : Fin 100) : ℝ := ∑ r, if lab r = k then dist lab X r else 0
/-- The mean distance. -/
def mean (k : Fin 100) : ℝ := spread lab X k / max (cnt lab k) 1
/-- The share of the rows with label `k`, plus the small constant. -/
def share (k : Fin 100) : EReal := Ideal.div ((cnt lab k : ℝ) : EReal) (∑ j, ((cnt lab j : ℝ) : EReal)) + Ideal.ofBits .f32 0x2EDBE6FF#32
/-- The entropy of the shares. -/
def entropy : EReal := -∑ k, share lab k * Ideal.log (share lab k)
open Classical in
/-- How many labels have more than one row. -/
def nValid : ℕ := (Finset.univ.filter fun k => 1 < cnt lab k).card
open Classical in
/-- How many labels have a row. -/
def nPres : ℕ := (Finset.univ.filter fun k => 0 < cnt lab k).card
/-- The pairs of present labels, the smaller first. -/
def Pair (i j : Fin 100) : Prop := (i < j ∧ 0 < cnt lab i) ∧ 0 < cnt lab j
open Classical in
/-- How many such pairs there are. -/
def nPair : ℕ := (Finset.univ.filter fun p : Fin 100 × Fin 100 => Pair lab p.1 p.2).card
/-- The distance of two mean rows. -/
def inter (i j : Fin 100) : ℝ :=
  Real.sqrt (∑ d, (cent lab X i d - cent lab X j d) * (cent lab X i d - cent lab X j d))
open Classical in
/-- The mean over the labels with more than one row of the mean distances. -/
def hA : EReal := if 0 < nValid lab then
  Ideal.div (∑ k, if 1 < cnt lab k then ((mean lab X k : ℝ) : EReal) else 0) (max ((nValid lab : ℝ) : EReal) 1) else 0
open Classical in
/-- The mean distance of the pairs. -/
def hR : EReal := if 0 < nPair lab then
  Ideal.div (∑ i, ∑ j, if Pair lab i j then ((inter lab X i j : ℝ) : EReal) else 0) (max ((nPair lab : ℝ) : EReal) 1) else 0
open Classical in
/-- The least mean distance. -/
def minIntra : EReal := if 0 < nValid lab then Finset.univ.inf fun k => if 1 < cnt lab k then ((mean lab X k : ℝ) : EReal) else ⊤ else 0
open Classical in
/-- The greatest distance of a pair. -/
def maxInter : EReal := if 0 < nPair lab then
  Finset.univ.sup fun i => Finset.univ.sup fun j => if Pair lab i j then ((inter lab X i j : ℝ) : EReal) else ⊥ else 0
/-- The four statistics; with at most one label present the last three are zero. -/
def stat (j : Fin 4) : EReal :=
  match j with
  | 0 => entropy lab
  | 1 => if nPres lab ≤ 1 then 0 else hA lab X
  | 2 => if nPres lab ≤ 1 then 0 else hR lab X
  | 3 => if nPres lab ≤ 1 then 0 else maxInter lab X - minIntra lab X

theorem cnt_nonneg (k : Fin 100) : 0 ≤ cnt lab k := Finset.sum_nonneg fun r _ => by split <;> norm_num

theorem max_cnt_ne (k : Fin 100) : max (cnt lab k) 1 ≠ 0 := ne_of_gt (lt_of_lt_of_le one_pos (le_max_right _ _))

end Cert.Spec
-- ==== Proof.Math.KBlock.lean ====
/- What one block of rows adds to the sums, to the counts and to the distances, over exact reals. -/
module

public import proofs.«01_k».proof.Proof.Kern.Steps
public import proofs.«01_k».proof.Proof.Math.Spec
public import Idealize.ShloMosaic.Lib.Pointwise

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Kern
open Idealize.ShloMosaic.VecWindow (window put)

/-! ## Labels as words -/

/-- Comparing a label, cut to 16 bits, with a lane number. -/
theorem lane16 {α : Type} (l : Fin 100) (k : Fin 128) (p q : α) :
    Scalar.select (IntOp.cmpi CmpIPredicate.eq (BitVec.setWidth 16 (BitVec.ofNat 32 l.val)) (BitVec.ofNat 16 k.val)) p q = if l.val = k.val then p else q := by
  have e : BitVec.setWidth 16 (BitVec.ofNat 32 l.val) = BitVec.ofNat 16 k.val ↔ l.val = k.val := by
    rw [← BitVec.toNat_inj, BitVec.toNat_setWidth, BitVec.toNat_ofNat, BitVec.toNat_ofNat]
    omega
  unfold IntOp.cmpi Scalar.select
  by_cases h : l.val = k.val
  · simp [e.2 h, h]
  · have hb : (BitVec.setWidth 16 (BitVec.ofNat 32 l.val) == BitVec.ofNat 16 k.val) = false := beq_eq_false_iff_ne.2 fun h' => h (e.1 h')
    rw [if_neg h, hb]
    rfl

/-- Comparing a label with a lane number. -/
theorem lane32 {α : Type} (l : Fin 100) (k : Fin 128) (p q : α) :
    Scalar.select (IntOp.cmpi CmpIPredicate.eq (BitVec.ofNat 32 l.val) (BitVec.ofNat 32 k.val)) p q = if l.val = k.val then p else q := by
  have e : BitVec.ofNat 32 l.val = BitVec.ofNat 32 k.val ↔ l.val = k.val := by
    rw [← BitVec.toNat_inj, BitVec.toNat_ofNat, BitVec.toNat_ofNat]
    omega
  unfold IntOp.cmpi Scalar.select
  by_cases h : l.val = k.val
  · simp [h]
  · have hb : (BitVec.ofNat 32 l.val == BitVec.ofNat 32 k.val) = false := beq_eq_false_iff_ne.2 fun h' => h (e.1 h')
    rw [if_neg h, hb]
    rfl

/-- A label's lane. -/
def lane (l : Fin 100) : Fin 128 := ⟨l.val, by omega⟩

/-- Summing over the lanes the entries of the label's lane alone picks that entry. -/
theorem pick (l : Fin 100) (f : Fin 128 → EReal) :
    (∑ k : Fin 128, Scalar.select (IntOp.cmpi CmpIPredicate.eq (BitVec.setWidth 16 (BitVec.ofNat 32 l.val)) (BitVec.ofNat 16 k.val)) (f k) 0) = f (lane l) := by
  simp only [lane16]
  have : ∀ k : Fin 128, (if l.val = k.val then f k else 0) = if lane l = k then f k else 0 := fun k => if_congr (by simp [lane, Fin.ext_iff]) rfl rfl
  simp only [this, Finset.sum_ite_eq, Finset.mem_univ, if_true]

/-- Row `k` of configuration `c` in a block of four configurations' rows. -/
def at4 (c : Fin 4) (k : Fin 128) : Fin 512 := ⟨c.val * 128 + k.val, by omega⟩

variable (x : Vec Ideal S4000x128 .f32) (a : Vec Ideal S4000x4 .i32)
variable (la : Fin 4 → Fin 4000 → Fin 100) (X : Fin 4000 → Fin 128 → ℝ)
variable (ha : ∀ r c, a (ix2 r c) = BitVec.ofNat 32 (la c r).val) (hx : ∀ r d, x (ix2 r d) = ((X r d : ℝ) : EReal))

/-- What the block adds to the sums. -/
def blkS (c : Fin 4) (k d : Fin 128) : ℝ := ∑ r, if (la c r).val = k.val then X r d else 0
/-- What the block adds to the counts. -/
def blkC (c : Fin 4) (k : Fin 128) : ℝ := ∑ r, if (la c r).val = k.val then 1 else 0
/-- What the block adds to the distances, with mean rows `C`. -/
def blkI (C : Fin 4 → Fin 100 → Fin 128 → ℝ) (c : Fin 4) (k : Fin 128) : ℝ :=
  ∑ r, if (la c r).val = k.val then Real.sqrt (∑ d, (X r d - C c (la c r) d) * (X r d - C c (la c r) d)) else 0

include ha in
theorem onehot_at (c : Fin 4) (k : Fin 128) (r : Fin 4000) (y : EReal) :
    (if ((at4 c k : Fin 512) : ℕ) < 128 then
        Scalar.select (IntOp.cmpi CmpIPredicate.eq (BitVec.setWidth 16 (a (ix2 r 0))) (BitVec.ofNat 16 ((at4 c k : Fin 512) : ℕ))) (1 : EReal) 0
      else if ((at4 c k : Fin 512) : ℕ) - 128 < 128 then
        Scalar.select (IntOp.cmpi CmpIPredicate.eq (BitVec.setWidth 16 (a (ix2 r 1))) (BitVec.ofNat 16 (((at4 c k : Fin 512) : ℕ) - 128))) 1 0
      else if ((at4 c k : Fin 512) : ℕ) - 128 - 128 < 128 then
        Scalar.select (IntOp.cmpi CmpIPredicate.eq (BitVec.setWidth 16 (a (ix2 r 2))) (BitVec.ofNat 16 (((at4 c k : Fin 512) : ℕ) - 128 - 128))) 1 0
      else
        Scalar.select (IntOp.cmpi CmpIPredicate.eq (BitVec.setWidth 16 (a (ix2 r 3))) (BitVec.ofNat 16 (((at4 c k : Fin 512) : ℕ) - 128 - 128 - 128))) 1 0) * y
      = if (la c r).val = k.val then y else 0 := by
  have hk := k.isLt
  simp only [ha]
  rcases c with ⟨n, hn⟩
  interval_cases n
  · have e : ((at4 ⟨0, hn⟩ k : Fin 512) : ℕ) = k.val := by simp [at4]
    rw [e, if_pos hk, lane16]; split <;> simp [*]
  · have e : ((at4 ⟨1, hn⟩ k : Fin 512) : ℕ) = 128 + k.val := by simp [at4]
    rw [e, if_neg (by omega), if_pos (by omega), show 128 + k.val - 128 = k.val by omega, lane16]; split <;> simp [*]
  · have e : ((at4 ⟨2, hn⟩ k : Fin 512) : ℕ) = 256 + k.val := by simp [at4]
    rw [e, if_neg (by omega), if_neg (by omega), if_pos (by omega), show 256 + k.val - 128 - 128 = k.val by omega, lane16]; split <;> simp [*]
  · have e : ((at4 ⟨3, hn⟩ k : Fin 512) : ℕ) = 384 + k.val := by simp [at4]
    rw [e, if_neg (by omega), if_neg (by omega), if_neg (by omega), show 384 + k.val - 128 - 128 - 128 = k.val by omega, lane16]; split <;> simp [*]

include ha in
theorem prod_at (c : Fin 4) (k : Fin 128) (d : Fin 136) :
    k0_pay9 x a (ix2 (at4 c k) d) = ∑ r, if (la c r).val = k.val then (if h : d.val < 128 then x (ix2 r ⟨d.val, h⟩) else 1) else 0 := by
  pointwise [k0_pay9]
  simp only [dite_eq_ite]
  refine Finset.sum_congr rfl fun r _ => ?_
  exact onehot_at a la ha c k r _

include ha hx in
theorem stepS_val (s : Vec Ideal S512x128 .f32) (c : Fin 4) (k d : Fin 128) :
    stepS x a s (ix2 (at4 c k) d) = s (ix2 (at4 c k) d) + ((blkS la X c k d : ℝ) : EReal) := by
  unfold stepS
  pointwise [k0_pay3]
  rw [prod_at x a la ha]
  congr 1
  unfold blkS
  rw [← Spec.coe_sum]
  refine Finset.sum_congr rfl fun r _ => ?_
  rw [dif_pos d.isLt, hx, ← Spec.coe_ite]
  rfl

include ha in
theorem stepC_val (n : Vec Ideal S512x1 .f32) (c : Fin 4) (k : Fin 128) :
    stepC x a n (ix2 (at4 c k) 0) = n (ix2 (at4 c k) 0) + ((blkC la c k : ℝ) : EReal) := by
  unfold stepC
  pointwise [k0_pay4]
  rw [prod_at x a la ha]
  congr 1
  unfold blkC
  rw [← Spec.coe_sum]
  refine Finset.sum_congr rfl fun r _ => ?_
  rw [dif_neg (by decide), ← Spec.coe_ite]
  rfl

/-! ## The distances -/

variable (C : Fin 4 → Fin 100 → Fin 128 → ℝ)

/-- A row's squared distance to its label's mean row. -/
theorem sq_at (w : Vec Ideal S128x128 .bf16) (l : Fin 100) (Cl : Fin 128 → ℝ) (hw : ∀ d, w (ix2 (lane l) d) = ((Cl d : ℝ) : EReal))
    (v : Fin 128 → EReal) (V : Fin 128 → ℝ) (hv : ∀ d, v d = ((V d : ℝ) : EReal)) :
    (∑ d : Fin 128, (v d - ∑ k : Fin 128, Scalar.select (IntOp.cmpi CmpIPredicate.eq (BitVec.setWidth 16 (BitVec.ofNat 32 l.val)) (BitVec.ofNat 16 k.val)) (w (ix2 k d)) 0)
      * (v d - ∑ k : Fin 128, Scalar.select (IntOp.cmpi CmpIPredicate.eq (BitVec.setWidth 16 (BitVec.ofNat 32 l.val)) (BitVec.ofNat 16 k.val)) (w (ix2 k d)) 0))
      = ((∑ d, (V d - Cl d) * (V d - Cl d) : ℝ) : EReal) := by
  rw [← Spec.coe_sum]
  refine Finset.sum_congr rfl fun d _ => ?_
  rw [pick l (fun k => w (ix2 k d)), hw, hv, ← EReal.coe_sub, ← EReal.coe_mul]

/-- The block's contribution to a lane, as the four configurations' rows spell it. -/
theorem blk_at (c : Fin 4) (w : Vec Ideal S128x128 .bf16) (hw : ∀ l d, w (ix2 (lane l) d) = ((C c l d : ℝ) : EReal)) (k : Fin 128) (S : Fin 4000 → EReal)
    (hS : ∀ r, S r = ((∑ d, (X r d - C c (la c r) d) * (X r d - C c (la c r) d) : ℝ) : EReal)) :
    (∑ r, Scalar.select (IntOp.cmpi CmpIPredicate.eq (BitVec.ofNat 32 (la c r).val) (BitVec.ofNat 32 k.val))
      (if 0 < S r then Ideal.sqrt (if 0 < S r then S r else 1) else 0) (0 : EReal)) = ((blkI la X C c k : ℝ) : EReal) := by
  unfold blkI
  rw [← Spec.coe_sum]
  refine Finset.sum_congr rfl fun r _ => ?_
  rw [lane32, hS, Spec.guarded_sqrt _ (Finset.sum_nonneg fun d _ => mul_self_nonneg _), ← Spec.coe_ite]
  rfl

include ha hx

theorem row0_val (w : Vec Ideal S128x128 .bf16) (hw : ∀ l d, w (ix2 (lane l) d) = ((C 0 l d : ℝ) : EReal)) (y : Vec Ideal S1x128 .f32) (k : Fin 128) :
    k0_pay11 x a w y (ix2 0 k) = y (ix2 0 k) + ((blkI la X C 0 k : ℝ) : EReal) := by
  pointwise [k0_pay11, k0_pay10]
  simp only [ha]
  congr 1
  exact blk_at la X C 0 w hw k _ fun r => sq_at w (la 0 r) _ (hw _) (fun d => x (ix2 r d)) _ (hx r)

theorem row1_val (w : Vec Ideal S128x128 .bf16) (hw : ∀ l d, w (ix2 (lane l) d) = ((C 1 l d : ℝ) : EReal)) (y : Vec Ideal S1x128 .f32) (k : Fin 128) :
    k0_pay12 (k0_pay10 x) a w y (ix2 0 k) = y (ix2 0 k) + ((blkI la X C 1 k : ℝ) : EReal) := by
  pointwise [k0_pay12, k0_pay10]
  simp only [ha]
  congr 1
  exact blk_at la X C 1 w hw k _ fun r => sq_at w (la 1 r) _ (hw _) (fun d => x (ix2 r d)) _ (hx r)

theorem row2_val (w : Vec Ideal S128x128 .bf16) (hw : ∀ l d, w (ix2 (lane l) d) = ((C 2 l d : ℝ) : EReal)) (y : Vec Ideal S1x128 .f32) (k : Fin 128) :
    k0_pay14 (k0_pay10 x) a (k0_pay13 a) w y (ix2 0 k) = y (ix2 0 k) + ((blkI la X C 2 k : ℝ) : EReal) := by
  pointwise [k0_pay14, k0_pay13, k0_pay10]
  simp only [ha]
  congr 1
  exact blk_at la X C 2 w hw k _ fun r => sq_at w (la 2 r) _ (hw _) (fun d => x (ix2 r d)) _ (hx r)

theorem row3_val (w : Vec Ideal S128x128 .bf16) (hw : ∀ l d, w (ix2 (lane l) d) = ((C 3 l d : ℝ) : EReal)) (y : Vec Ideal S1x128 .f32) (k : Fin 128) :
    k0_pay7 (k0_pay10 x) a (k0_pay15 a) (Scalar.ofBits .bf16 0x3F80#16) (Scalar.ofBits .bf16 0x0000#16) w y (ix2 0 k)
      = y (ix2 0 k) + ((blkI la X C 3 k : ℝ) : EReal) := by
  pointwise [k0_pay7, k0_pay15, k0_pay10]
  simp only [ha]
  congr 1
  exact blk_at la X C 3 w hw k _ fun r => sq_at w (la 3 r) _ (hw _) (fun d => x (ix2 r d)) _ (hx r)

omit ha hx

/-! ## Rows of blocks -/

/-- A store into row `i` of four rows, read at an index. -/
theorem put_row {α : Type} {W : ℕ} (v : (⟨2, ![4, W]⟩ : Shape).Idx → α) (i : ℕ) (w : (⟨2, ![1, W]⟩ : Shape).Idx → α) (c : Fin 4) (k : Fin W) :
    put (s := ⟨2, ![4, W]⟩) v ![i, 0] ![1, W] w (ix2 c k) = if c.val = i then w (ix2 0 k) else v (ix2 c k) := by
  unfold put
  by_cases h : c.val = i
  · subst h
    rw [if_pos rfl, dif_pos]
    · congr 1
      funext b
      match b with
      | ⟨0, _⟩ => exact Fin.ext (Nat.sub_self _)
      | ⟨1, _⟩ => exact Fin.ext (Nat.sub_zero _)
    · intro b
      match b with
      | ⟨0, _⟩ => exact ⟨le_refl _, Nat.lt_succ_self _⟩
      | ⟨1, _⟩ => exact ⟨Nat.zero_le _, by show k.val < 0 + W; omega⟩
  · rw [if_neg h, dif_neg]
    intro hb
    have h0 := hb 0
    have h1 : i ≤ c.val ∧ c.val < i + 1 := h0
    omega

theorem window_row {α : Type} {W : ℕ} (v : (⟨2, ![4, W]⟩ : Shape).Idx → α) (i : Fin 4) (inb) (k : Fin W) :
    window (s := ⟨2, ![4, W]⟩) v ![i.val, 0] ![1, W] inb (ix2 0 k) = v (ix2 i k) := by
  unfold window
  congr 1
  funext b
  match b with
  | ⟨0, _⟩ => exact Fin.ext (by simp)
  | ⟨1, _⟩ => exact Fin.ext (by simp)

end Cert.KernelIdeal.Val
-- ==== Proof.Math.KTraj.lean ====
/- The sums, the counts, the mean rows and the distances after the last grid point, over exact reals. -/
module

public import proofs.«01_k».proof.Proof.Kern.Traj
public import proofs.«01_k».proof.Proof.Math.KBlock

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Kern
open Idealize.ShloMosaic.VecWindow (window put)

/-- Rows `o … o + 127` of a 512-row block, read at an index. -/
theorem window_blk {α : Type} {W : ℕ} (v : (⟨2, ![512, W]⟩ : Shape).Idx → α) (c : Fin 4) (o : ℕ) (ho : o = c.val * 128) (inb) (k : Fin 128) (d : Fin W) :
    window (s := ⟨2, ![512, W]⟩) v ![o, 0] ![128, W] inb (ix2 k d) = v (ix2 (at4 c k) d) := by
  subst ho
  unfold window
  congr 1
  funext b
  match b with
  | ⟨0, _⟩ => exact Fin.ext (by simp [at4])
  | ⟨1, _⟩ => exact Fin.ext (by simp)

/-- Row `r` of the block of point `n`: the blocks are passed twice. -/
def at40 (n : ℕ) (r : Fin 4000) : Fin 160000 := ⟨(n % 40) * 4000 + r.val, by omega⟩

theorem at40_again (i : ℕ) (r : Fin 4000) : at40 (40 + i) r = at40 i r := by
  unfold at40; congr 3; omega

/-- Forty blocks of rows are all the rows. -/
theorem sum_blocks (f : Fin 160000 → ℝ) : ∑ i ∈ Finset.range 40, ∑ r, f (at40 i r) = ∑ R, f R := by
  rw [Fin.sum_univ_tiles 40 4000 rfl f, Finset.sum_range]
  refine Finset.sum_congr rfl fun i _ => Finset.sum_congr rfl fun r _ => ?_
  congr 1
  exact Fin.ext (by show (i.val % 40) * 4000 + r.val = _; rw [Nat.mod_eq_of_lt i.isLt])

variable (X : ℕ → Vec Ideal S4000x128 .f32) (A : ℕ → Vec Ideal S4000x4 .i32)
variable (L : Fin 4 → Fin 160000 → Fin 100) (XX : Fin 160000 → Fin 128 → ℝ)
variable (hA : ∀ n r c, A n (ix2 r c) = BitVec.ofNat 32 (L c (at40 n r)).val) (hX : ∀ n r d, X n (ix2 r d) = ((XX (at40 n r) d : ℝ) : EReal))

/-- The labels and the rows of the block of point `n`. -/
def labB (n : ℕ) (c : Fin 4) (r : Fin 4000) : Fin 100 := L c (at40 n r)
def rowB (n : ℕ) (r : Fin 4000) (d : Fin 128) : ℝ := XX (at40 n r) d

include hA hX in
theorem trS_val (c : Fin 4) (k d : Fin 128) (n : ℕ) (hn : n < 40) :
    trS X A n (ix2 (at4 c k) d) = ((∑ i ∈ Finset.range (n + 1), blkS (labB L i) (rowB XX i) c k d : ℝ) : EReal) := by
  induction n with
  | zero =>
    show stepS (X 0) (A 0) (k0_pay1 (F := Ideal)) _ = _
    rw [stepS_val (X 0) (A 0) (labB L 0) (rowB XX 0) (hA 0) (hX 0), Finset.sum_range_one]
    have : (k0_pay1 (F := Ideal)) (ix2 (at4 c k) d) = 0 := by pointwise [k0_pay1]
    rw [this, zero_add]
  | succ n ih =>
    rw [trS_step X A (Nat.succ_ne_zero n) hn, stepS_val _ _ (labB L (n + 1)) (rowB XX (n + 1)) (hA _) (hX _), Finset.sum_range_succ, EReal.coe_add]
    exact congrArg (· + _) (ih (by omega))

include hA in
theorem trC_val (c : Fin 4) (k : Fin 128) (n : ℕ) (hn : n < 40) :
    trC X A n (ix2 (at4 c k) 0) = ((∑ i ∈ Finset.range (n + 1), blkC (labB L i) c k : ℝ) : EReal) := by
  induction n with
  | zero =>
    show stepC (X 0) (A 0) (k0_pay2 (F := Ideal)) _ = _
    rw [stepC_val (X 0) (A 0) (labB L 0) (hA 0), Finset.sum_range_one]
    have : (k0_pay2 (F := Ideal)) (ix2 (at4 c k) 0) = 0 := by pointwise [k0_pay2]
    rw [this, zero_add]
  | succ n ih =>
    rw [trC_step X A (Nat.succ_ne_zero n) hn, stepC_val _ _ (labB L (n + 1)) (hA _), Finset.sum_range_succ, EReal.coe_add]
    exact congrArg (· + _) (ih (by omega))

/-! ## Lane by lane: the labels' figures, zero in the lanes above them -/

/-- A figure per label, as a figure per lane. -/
def ext (f : Fin 100 → ℝ) (k : Fin 128) : ℝ := if h : k.val < 100 then f ⟨k.val, h⟩ else 0

theorem ext_lane (f : Fin 100 → ℝ) (l : Fin 100) : ext f (lane l) = f l := dif_pos l.isLt

/-- A sum over the rows of a lane's label. -/
theorem ext_sum (lab : Fin 160000 → Fin 100) (g : Fin 160000 → ℝ) (k : Fin 128) :
    (∑ R, if (lab R).val = k.val then g R else 0) = ext (fun l => ∑ R, if lab R = l then g R else 0) k := by
  unfold ext
  split_ifs with h
  · exact Finset.sum_congr rfl fun R _ => if_congr (by rw [Fin.ext_iff]) rfl rfl
  · exact Finset.sum_eq_zero fun R _ => if_neg (by have := (lab R).isLt; omega)

include hA hX in
theorem sums_val (c : Fin 4) (k d : Fin 128) : trS X A 39 (ix2 (at4 c k) d) = ((ext (fun l => Spec.tot (L c) XX l d) k : ℝ) : EReal) := by
  rw [trS_val X A L XX hA hX c k d 39 (by decide)]
  congr 1
  show ∑ i ∈ Finset.range 40, ∑ r, (if (L c (at40 i r)).val = k.val then XX (at40 i r) d else 0) = _
  rw [sum_blocks fun R => if (L c R).val = k.val then XX R d else 0, ext_sum (L c) (fun R => XX R d)]
  rfl

include hA in
theorem counts_val (c : Fin 4) (k : Fin 128) : trC X A 39 (ix2 (at4 c k) 0) = ((ext (Spec.cnt (L c)) k : ℝ) : EReal) := by
  rw [trC_val X A L hA c k 39 (by decide)]
  congr 1
  show ∑ i ∈ Finset.range 40, ∑ r, (if (L c (at40 i r)).val = k.val then (1 : ℝ) else 0) = _
  rw [sum_blocks fun R => if (L c R).val = k.val then (1 : ℝ) else 0, ext_sum (L c) (fun R => 1)]
  rfl

include hA hX in
theorem cents_val (c : Fin 4) (l : Fin 100) (d : Fin 128) : trK X A (ix2 (at4 c (lane l)) d) = ((Spec.cent (L c) XX l d : ℝ) : EReal) := by
  unfold trK
  pointwise [k0_pay5]
  rw [sums_val X A L XX hA hX, counts_val X A L hA, ext_lane, ext_lane]
  have : max ((Spec.cnt (L c) l : ℝ) : EReal) 1 = ((max (Spec.cnt (L c) l) 1 : ℝ) : EReal) := Spec.coe_max _ 1
  rw [this, Spec.div_real _ _ (Spec.max_cnt_ne (L c) l)]
  rfl

/-! ## The distances -/

theorem stepI_val (x : Vec Ideal S4000x128 .f32) (a : Vec Ideal S4000x4 .i32) (la : Fin 4 → Fin 4000 → Fin 100) (V : Fin 4000 → Fin 128 → ℝ)
    (ha : ∀ r c, a (ix2 r c) = BitVec.ofNat 32 (la c r).val) (hx : ∀ r d, x (ix2 r d) = ((V r d : ℝ) : EReal))
    (ct : Vec Ideal S512x128 .bf16) (C : Fin 4 → Fin 100 → Fin 128 → ℝ) (hC : ∀ c l d, ct (ix2 (at4 c (lane l)) d) = ((C c l d : ℝ) : EReal))
    (y : Vec Ideal S4x128 .f32) (c : Fin 4) (k : Fin 128) :
    stepI x a ct y (ix2 c k) = y (ix2 c k) + ((blkI la V C c k : ℝ) : EReal) := by
  unfold stepI
  refine (put_row _ 3 _ c k).trans ?_
  split_ifs with h3
  · obtain rfl : c = 3 := Fin.ext h3
    refine (row3_val x a la V ha hx C _ (fun l d => (window_blk ct 3 384 rfl _ _ _).trans (hC 3 l d)) _ k).trans ?_
    exact congrArg (· + _) (window_row y 3 _ k)
  refine (put_row _ 2 _ c k).trans ?_
  split_ifs with h2
  · obtain rfl : c = 2 := Fin.ext h2
    refine (row2_val x a la V ha hx C _ (fun l d => (window_blk ct 2 256 rfl _ _ _).trans (hC 2 l d)) _ k).trans ?_
    exact congrArg (· + _) (window_row y 2 _ k)
  refine (put_row _ 1 _ c k).trans ?_
  split_ifs with h1
  · obtain rfl : c = 1 := Fin.ext h1
    refine (row1_val x a la V ha hx C _ (fun l d => (window_blk ct 1 128 rfl _ _ _).trans (hC 1 l d)) _ k).trans ?_
    exact congrArg (· + _) (window_row y 1 _ k)
  refine (put_row _ 0 _ c k).trans ?_
  have h0 : c.val = 0 := by omega
  rw [if_pos h0]
  obtain rfl : c = 0 := Fin.ext h0
  refine (row0_val x a la V ha hx C _ (fun l d => (window_blk ct 0 0 rfl _ _ _).trans (hC 0 l d)) _ k).trans ?_
  exact congrArg (· + _) (window_row y 0 _ k)

include hA hX in
theorem trI_val (c : Fin 4) (k : Fin 128) (n : ℕ) :
    trI X A (39 + n) (ix2 c k) = ((∑ i ∈ Finset.range n, blkI (labB L (40 + i)) (rowB XX (40 + i)) (fun c l d => Spec.cent (L c) XX l d) c k : ℝ) : EReal) := by
  induction n with
  | zero =>
    rw [trI_zero X A (by decide)]
    have : (k0_pay6 (F := Ideal)) (ix2 c k) = 0 := by pointwise [k0_pay6]
    rw [this]; simp
  | succ n ih =>
    rw [trI_step X A (show 40 ≤ 39 + (n + 1) by omega), show 39 + (n + 1) = 40 + n by omega, show 40 + n - 1 = 39 + n by omega,
      stepI_val _ _ (labB L (40 + n)) (rowB XX (40 + n)) (hA _) (hX _) _ _ (cents_val X A L XX hA hX), Finset.sum_range_succ, EReal.coe_add, ih]

include hA hX in
theorem spreads_val (c : Fin 4) (k : Fin 128) : trI X A 79 (ix2 c k) = ((ext (Spec.spread (L c) XX) k : ℝ) : EReal) := by
  rw [show 79 = 39 + 40 from rfl, trI_val X A L XX hA hX c k 40]
  congr 1
  have : ∀ i, blkI (labB L (40 + i)) (rowB XX (40 + i)) (fun c l d => Spec.cent (L c) XX l d) c k
      = ∑ r, (fun R => if (L c R).val = k.val then Spec.dist (L c) XX R else 0) (at40 i r) := by
    intro i
    unfold blkI labB rowB
    simp only [at40_again]
    rfl
  exact (Finset.sum_congr rfl fun i _ => this i).trans ((sum_blocks _).trans (ext_sum (L c) (fun R => Spec.dist (L c) XX R) k))

end Cert.KernelIdeal.Val
-- ==== Proof.Math.KLane.lean ====
/- Counting, summing and taking extremes over 128 lanes of which only the first hundred hold anything. -/
module

public import proofs.«01_k».proof.Proof.Math.KTraj

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Kern
open Idealize.ShloMosaic.VecWindow (window put)

/-- A sum over the lanes is the sum over the labels where the other lanes hold zero. -/
theorem sum_lanes (f : Fin 128 → EReal) (g : Fin 100 → EReal) (h : ∀ l, f (lane l) = g l) (h0 : ∀ k : Fin 128, 100 ≤ k.val → f k = 0) :
    ∑ k, f k = ∑ l, g l := by
  have e := Fin.sum_univ_add (a := 100) (b := 28) f
  refine e.trans ?_
  have z : ∑ i : Fin 28, f (Fin.natAdd 100 i) = 0 := Finset.sum_eq_zero fun i _ => h0 _ (by show 100 ≤ 100 + i.val; omega)
  rw [z, add_zero]
  exact Finset.sum_congr rfl fun l _ => h l

theorem lane_of (k : Fin 128) (h : k.val < 100) : k = lane ⟨k.val, h⟩ := rfl

/-- The least over the lanes is the least over the labels where the other lanes hold `⊤`. -/
theorem inf_lanes (f : Fin 128 → EReal) (g : Fin 100 → EReal) (h : ∀ l, f (lane l) = g l) (h0 : ∀ k : Fin 128, 100 ≤ k.val → f k = ⊤) :
    Finset.univ.inf f = Finset.univ.inf g := by
  refine le_antisymm (Finset.le_inf fun l _ => ?_) (Finset.le_inf fun k _ => ?_)
  · rw [← h l]; exact Finset.inf_le (Finset.mem_univ _)
  · by_cases hk : k.val < 100
    · rw [lane_of k hk, h]; exact Finset.inf_le (Finset.mem_univ _)
    · rw [h0 k (by omega)]; exact le_top

/-- The greatest over the lanes is the greatest over the labels where the other lanes hold `⊥`. -/
theorem sup_lanes (f : Fin 128 → EReal) (g : Fin 100 → EReal) (h : ∀ l, f (lane l) = g l) (h0 : ∀ k : Fin 128, 100 ≤ k.val → f k = ⊥) :
    Finset.univ.sup f = Finset.univ.sup g := by
  refine le_antisymm (Finset.sup_le fun k _ => ?_) (Finset.sup_le fun l _ => ?_)
  · by_cases hk : k.val < 100
    · rw [lane_of k hk, h]; exact Finset.le_sup (Finset.mem_univ _)
    · rw [h0 k (by omega)]; exact bot_le
  · rw [← h l]; exact Finset.le_sup (f := f) (Finset.mem_univ _)

/-- A truth value as an exact number. -/
theorem flag_val (p : Prop) [Decidable p] :
    (FloatOps.sitofp FTy.f32 (BitVec.setWidth 32 (BitVec.ofBool (decide p))) : Ideal .f32) = if p then (1 : EReal) else 0 := by
  show (((BitVec.setWidth 32 (BitVec.ofBool (decide p))).toInt : ℝ) : EReal) = _
  by_cases h : p
  · simp only [h, decide_true, if_true]
    show (((1 : Int) : ℝ) : EReal) = 1
    simp
  · simp only [h, decide_false, if_false]
    show (((0 : Int) : ℝ) : EReal) = 0
    simp

/-- The number of the true ones, as a sum. -/
theorem card_val {ι : Type*} [Fintype ι] (p : ι → Prop) [DecidablePred p] :
    (∑ i, if p i then (1 : EReal) else 0) = (((Finset.univ.filter p).card : ℝ) : EReal) := by
  have : ∀ i, (if p i then (1 : EReal) else 0) = ((if p i then (1 : ℝ) else 0 : ℝ) : EReal) := fun i => by split <;> rfl
  rw [Finset.sum_congr rfl fun i _ => this i, Spec.coe_sum, Finset.sum_boole]

theorem pos_count (n : ℕ) : (0 : EReal) < ((n : ℝ) : EReal) ↔ 0 < n := by
  rw [← EReal.coe_zero, EReal.coe_lt_coe_iff]; exact Nat.cast_pos

theorem few_count (n : ℕ) : ((n : ℝ) : EReal) ≤ 1 ↔ n ≤ 1 := by
  rw [← EReal.coe_one, EReal.coe_le_coe_iff]; exact Nat.cast_le_one

theorem select_bool {α : Type} (p : Prop) [Decidable p] (a b : α) : Scalar.select (BitVec.ofBool (decide p)) a b = if p then a else b := by
  by_cases h : p
  · simp only [h, decide_true, if_true]; rfl
  · simp only [h, decide_false, if_false]; rfl

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem small_toInt (k : ℕ) (h : k ≤ 128) : (BitVec.ofNat 32 k).toInt = k := by
  rw [BitVec.toInt_eq_toNat_cond, BitVec.toNat_ofNat, Nat.mod_eq_of_lt (by omega), if_pos (by omega)]

theorem lt_word (i j : ℕ) (hi : i ≤ 128) (hj : j ≤ 128) :
    IntOp.cmpi CmpIPredicate.slt (BitVec.ofNat 32 i) (BitVec.ofNat 32 j) = BitVec.ofBool (decide (i < j)) := by
  unfold IntOp.cmpi
  simp only [BitVec.slt, small_toInt i hi, small_toInt j hj]
  congr 1
  rw [decide_eq_decide]
  omega

theorem eq_word (i j : Fin 128) :
    IntOp.cmpi CmpIPredicate.eq (BitVec.ofNat 32 i.val) (BitVec.ofNat 32 j.val) = BitVec.ofBool (decide (i = j)) := by
  have e : BitVec.ofNat 32 i.val = BitVec.ofNat 32 j.val ↔ i = j := by
    rw [← BitVec.toNat_inj, BitVec.toNat_ofNat, BitVec.toNat_ofNat, Fin.ext_iff]
    omega
  unfold IntOp.cmpi
  by_cases h : i = j
  · simp [h]
  · have hb : (BitVec.ofNat 32 i.val == BitVec.ofNat 32 j.val) = false := beq_eq_false_iff_ne.2 fun h' => h (e.1 h')
    simp only [hb, h, decide_false]

theorem top_word : Ideal.ofBits .f32 0x7F800000#32 = ⊤ := by simp [Ideal.ofBits, Ideal.ieee]
theorem bot_word : Ideal.ofBits .f32 0xFF800000#32 = ⊥ := by simp [Ideal.ofBits, Ideal.ieee]
theorem two_word : Ideal.ofBits .f32 0x40000000#32 = ((2 : ℝ) : EReal) := by
  simp [Ideal.ofBits, Ideal.ieee, -EReal.coe_mul]; norm_num

/-- The greatest of a table is the greatest of its rows' greatest. -/
theorem sup_rows (f : Fin 128 × Fin 128 → EReal) :
    Finset.fold max ⊥ f Finset.univ = Finset.univ.sup fun i => Finset.univ.sup fun j => f (i, j) := by
  rw [← Finset.sup_product_left, Finset.univ_product_univ]; rfl

/-- The least of a table of one row. -/
theorem inf_row (f : Fin 128 → EReal) :
    Finset.fold min ⊤ (fun x : Fin 1 × Fin 128 => f x.2) Finset.univ = Finset.univ.inf f := by
  show Finset.univ.inf (fun x : Fin 1 × Fin 128 => f x.2) = _
  refine le_antisymm (Finset.le_inf fun k _ => ?_) (Finset.le_inf fun k _ => Finset.inf_le (Finset.mem_univ _))
  exact Finset.inf_le (f := fun x : Fin 1 × Fin 128 => f x.2) (Finset.mem_univ (0, k))

end Cert.KernelIdeal.Val
-- ==== Proof.Math.KStat.lean ====
/- The kernel's row of statistics of one configuration is the row of the specification. -/
module

public import proofs.«01_k».proof.Proof.Math.KLane

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Kern
open Idealize.ShloMosaic.VecWindow (window put)

variable (n : Vec Ideal S128x1 .f32) (y : Vec Ideal S1x128 .f32) (s : Vec Ideal S128x128 .f32)
variable (lab : Fin 160000 → Fin 100) (X : Fin 160000 → Fin 128 → ℝ)
variable (hn : ∀ k, n (ix2 k 0) = ((ext (Spec.cnt lab) k : ℝ) : EReal)) (hy : ∀ k, y (ix2 0 k) = ((ext (Spec.spread lab X) k : ℝ) : EReal))
variable (hs : ∀ k d, s (ix2 k d) = ((ext (fun l => Spec.tot lab X l d) k : ℝ) : EReal))

theorem ext_high (f : Fin 100 → ℝ) (k : Fin 128) (h : 100 ≤ k.val) : ext f k = 0 := dif_neg (by omega)

theorem eye_val (i j : Fin 128) : k0_pay17 (F := Ideal) (ix2 i j) = if i = j then 1 else 0 := by
  pointwise [k0_pay17]
  rw [eq_word, flag_val]

theorem row_val (k : Fin 128) : k0_pay19 n (ix2 0 k) = n (ix2 k 0) := by
  pointwise [k0_pay19, k0_pay18, eye_val]
  simp only [mul_ite, mul_one, mul_zero, Finset.sum_ite_eq', Finset.mem_univ, if_true]

theorem col_val (k : Fin 128) : k0_pay18 n (ix2 k 0) = n (ix2 k 0) := by
  pointwise [k0_pay18]

theorem upper_val (i j : Fin 128) : k0_pay16 (ix2 i j) = BitVec.ofBool (decide (i < j)) := by
  pointwise [k0_pay16]
  rw [lt_word _ _ (by omega) (by omega)]
  exact congrArg _ (decide_eq_decide.2 Iff.rfl)

section counts
include hn

/-! ## The entropy -/

theorem total_val : (∑ x : Fin 128, ((ext (Spec.cnt lab) x : ℝ) : EReal)) = ∑ l, ((Spec.cnt lab l : ℝ) : EReal) :=
  sum_lanes _ _ (fun l => by rw [ext_lane]) (fun k h => by rw [ext_high _ k h]; rfl)

theorem entropy_val : k0_pay20 n = Spec.stat lab X 0 := by
  pointwise [k0_pay20, row_val, hn]
  rw [Fin.sum_univ_one, Fin.sum_univ_one, total_val n lab hn, zero_sub]
  refine congrArg (fun z : EReal => -z) (sum_lanes _ _ (fun l => ?_) (fun k h => ?_))
  · rw [lt_word _ 100 (by omega) (by decide), select_bool, if_pos (show (lane l).val < 100 from l.isLt), ext_lane]
    rfl
  · rw [lt_word _ 100 (by omega) (by decide), select_bool, if_neg (by omega)]

/-! ## The counts of labels and of pairs -/

open Classical in
theorem valid_val (k : Fin 128) : k0_pay22 n (ix2 0 k) = BitVec.ofBool (decide (1 < ext (Spec.cnt lab) k)) := by
  pointwise [k0_pay22, row_val, hn]
  congr 1
  rw [decide_eq_decide]; exact EReal.coe_lt_coe_iff (x := 1)

theorem nValid_val : k0_pay23 n = ((Spec.nValid lab : ℝ) : EReal) := by
  classical
  pointwise [k0_pay23]
  simp only [valid_val n lab hn, flag_val]
  rw [Fin.sum_univ_one]
  refine (sum_lanes _ (fun l => if 1 < Spec.cnt lab l then 1 else 0) (fun l => by rw [ext_lane]) (fun k h => ?_)).trans ((card_val _).trans ?_)
  · rw [ext_high _ k h, if_neg (by norm_num)]
  · unfold Spec.nValid
    congr!

theorem nPres_val : k0_pay31 (k0_pay19 n) = ((Spec.nPres lab : ℝ) : EReal) := by
  classical
  pointwise [k0_pay31, row_val, hn]
  simp only [flag_val]
  rw [Fin.sum_univ_one]
  refine (sum_lanes _ (fun l => if 0 < Spec.cnt lab l then 1 else 0) (fun l => ?_) (fun k h => ?_)).trans ((card_val _).trans ?_)
  · rw [ext_lane]; exact if_congr (EReal.coe_lt_coe_iff (x := 0)) rfl rfl
  · rw [ext_high _ k h]
    exact if_neg (by simp)
  · unfold Spec.nPres
    congr!

/-- The pairs of lanes whose distance counts. -/
def PairX (lab : Fin 160000 → Fin 100) (i j : Fin 128) : Prop := (i < j ∧ 0 < ext (Spec.cnt lab) i) ∧ 0 < ext (Spec.cnt lab) j

omit hn in
theorem pair_lane (l l' : Fin 100) : PairX lab (lane l) (lane l') ↔ Spec.Pair lab l l' := by
  unfold PairX Spec.Pair
  rw [ext_lane, ext_lane]
  exact Iff.rfl
omit hn in
theorem pair_high1 (i j : Fin 128) (h : 100 ≤ i.val) : ¬ PairX lab i j := by
  unfold PairX
  rw [ext_high _ i h]
  exact fun h' => lt_irrefl _ h'.1.2
omit hn in
theorem pair_high2 (i j : Fin 128) (h : 100 ≤ j.val) : ¬ PairX lab i j := by
  unfold PairX
  rw [ext_high _ j h]
  exact fun h' => lt_irrefl _ h'.2

open Classical in
theorem pair_val (i j : Fin 128) : k0_pay26 k0_pay16 (k0_pay18 n) (k0_pay19 n) (ix2 i j) = BitVec.ofBool (decide (PairX lab i j)) := by
  pointwise [k0_pay26, col_val, row_val, upper_val, hn]
  rw [and_bool, and_bool]
  refine congrArg _ (decide_eq_decide.2 ?_)
  unfold PairX
  rw [← EReal.coe_zero, EReal.coe_lt_coe_iff, EReal.coe_lt_coe_iff]

theorem nPair_val : k0_pay28 (F := Ideal) (k0_pay27 k0_pay16 (k0_pay18 n) (k0_pay19 n)) = ((Spec.nPair lab : ℝ) : EReal) := by
  classical
  pointwise [k0_pay28, k0_pay27]
  simp only [pair_val n lab hn, flag_val]
  refine (sum_lanes _ (fun l => ∑ l', if Spec.Pair lab l l' then 1 else 0) (fun l => ?_) (fun k h => ?_)).trans ?_
  · exact sum_lanes _ _ (fun l' => if_congr (pair_lane lab l l') rfl rfl) (fun k h => if_neg (pair_high2 lab _ k h))
  · exact Finset.sum_eq_zero fun j _ => if_neg (pair_high1 lab k j h)
  · rw [← Fintype.sum_prod_type (fun p : Fin 100 × Fin 100 => if Spec.Pair lab p.1 p.2 then (1 : EReal) else 0)]
    refine (card_val _).trans ?_
    unfold Spec.nPair
    congr!

theorem few_val : Scalar.cmpf .ole (k0_pay31 (k0_pay19 n)) (Scalar.ofBits .f32 0x3F800000#32) = BitVec.ofBool (decide (Spec.nPres lab ≤ 1)) := by
  rw [nPres_val n lab hn]
  have e : (Scalar.ofBits .f32 0x3F800000#32 : Ideal .f32) = 1 := by
    show Ideal.ofBits .f32 0x3F800000#32 = 1
    simp [Ideal.ofBits, Ideal.ieee, -EReal.coe_mul]; norm_num
  rw [e]
  refine Eq.trans (b := BitVec.ofBool (decide (((Spec.nPres lab : ℝ) : EReal) ≤ 1))) ?_ (congrArg _ (decide_eq_decide.2 (few_count _)))
  classical
  show BitVec.ofBool _ = _
  congr!
end counts

/-! ## The mean distances -/

include hn

omit hn in
theorem max_real (a : ℝ) : max ((a : ℝ) : EReal) 1 = ((max a 1 : ℝ) : EReal) := Spec.coe_max a 1
omit hn in
theorem max_ne (a : ℝ) : max a 1 ≠ 0 := ne_of_gt (lt_of_lt_of_le one_pos (le_max_right _ _))

include hy in
theorem mean_val (k : Fin 128) : k0_pay21 n y (ix2 0 k) = ((ext (Spec.spread lab X) k / max (ext (Spec.cnt lab) k) 1 : ℝ) : EReal) := by
  pointwise [k0_pay21, row_val, hn, hy]
  rw [max_real, Spec.div_real _ _ (max_ne _)]

include hy in
theorem hA_val : k0_pay24 (k0_pay21 n y) (k0_pay22 n) (k0_pay23 n) (Scalar.cmpf .ogt (k0_pay23 n) (Scalar.ofBits .f32 0x00000000#32)) = Spec.hA lab X := by
  classical
  pointwise [k0_pay24, valid_val n lab hn, mean_val n y lab X hn hy, nValid_val n lab hn]
  rw [Fin.sum_univ_one]
  unfold Spec.hA
  refine if_congr (pos_count _) ?_ rfl
  congr 1
  refine sum_lanes _ _ (fun l => ?_) (fun k h => ?_)
  · rw [ext_lane, ext_lane]
    congr!
  · rw [ext_high _ k h]
    exact if_neg (by norm_num)

include hs

/-- The mean row of a lane. -/
def centX (lab : Fin 160000 → Fin 100) (X : Fin 160000 → Fin 128 → ℝ) (i d : Fin 128) : ℝ :=
  ext (fun l => Spec.tot lab X l d) i / max (ext (Spec.cnt lab) i) 1

omit hn hs in
theorem cent_lane (l : Fin 100) (d : Fin 128) : centX lab X (lane l) d = Spec.cent lab X l d := by
  unfold centX; rw [ext_lane, ext_lane]; rfl

omit hn hs in
theorem gram (c c' : Fin 128 → ℝ) :
    ((∑ d, c d * c d) + (∑ d, c' d * c' d)) - 2 * (∑ d, c d * c' d) = ∑ d, (c d - c' d) * (c d - c' d) := by
  rw [Finset.mul_sum, ← Finset.sum_add_distrib, ← Finset.sum_sub_distrib]
  exact Finset.sum_congr rfl fun d _ => by ring

theorem inter_val (i j : Fin 128) : k0_pay25 k0_pay17 (k0_pay18 n) s (ix2 i j)
    = ((Real.sqrt (∑ d, (centX lab X i d - centX lab X j d) * (centX lab X i d - centX lab X j d)) : ℝ) : EReal) := by
  have hc : ∀ i d : Fin 128, Ideal.div ((ext (fun l => Spec.tot lab X l d) i : ℝ) : EReal) (max ((ext (Spec.cnt lab) i : ℝ) : EReal) 1) = ((centX lab X i d : ℝ) : EReal) := by
    intro i d
    rw [max_real, Spec.div_real _ _ (max_ne _)]; rfl
  pointwise [k0_pay25, col_val, eye_val, hn, hs]
  simp only [hc, mul_ite, mul_one, mul_zero, Finset.sum_ite_eq', Finset.sum_ite_eq, Finset.mem_univ, if_true, two_word, ← EReal.coe_mul, Spec.coe_sum,
    ← EReal.coe_add, ← EReal.coe_sub, gram]
  exact Spec.guarded_sqrt _ (Finset.sum_nonneg fun d _ => mul_self_nonneg _)

theorem inter_lane (l l' : Fin 100) : k0_pay25 k0_pay17 (k0_pay18 n) s (ix2 (lane l) (lane l')) = ((Spec.inter lab X l l' : ℝ) : EReal) := by
  rw [inter_val n s lab X hn hs]
  simp only [cent_lane]
  rfl

theorem hR_val : k0_pay29 (k0_pay25 k0_pay17 (k0_pay18 n) s) (k0_pay26 k0_pay16 (k0_pay18 n) (k0_pay19 n)) (k0_pay27 k0_pay16 (k0_pay18 n) (k0_pay19 n))
    = Spec.hR lab X := by
  classical
  pointwise [k0_pay29, pair_val n lab hn, nPair_val n lab hn]
  unfold Spec.hR
  refine if_congr (pos_count _) ?_ rfl
  congr 1
  refine sum_lanes _ _ (fun l => ?_) (fun k h => ?_)
  · refine sum_lanes _ _ (fun l' => ?_) (fun k h => if_neg (pair_high2 lab _ k h))
    rw [inter_lane n s lab X hn hs]
    exact if_congr (pair_lane lab l l') rfl rfl
  · exact Finset.sum_eq_zero fun j _ => if_neg (pair_high1 lab k j h)

include hy in
theorem gap_val : k0_pay30 (k0_pay21 n y) (k0_pay22 n) (k0_pay23 n) (k0_pay25 k0_pay17 (k0_pay18 n) s) (k0_pay26 k0_pay16 (k0_pay18 n) (k0_pay19 n))
    (k0_pay27 k0_pay16 (k0_pay18 n) (k0_pay19 n)) = Spec.maxInter lab X - Spec.minIntra lab X := by
  classical
  pointwise [k0_pay30, pair_val n lab hn, nPair_val n lab hn, valid_val n lab hn, nValid_val n lab hn, mean_val n y lab X hn hy]
  rw [top_word, bot_word, sup_rows, inf_row (fun k => if 1 < ext (Spec.cnt lab) k then ((ext (Spec.spread lab X) k / max (ext (Spec.cnt lab) k) 1 : ℝ) : EReal) else ⊤)]
  congr 1
  · unfold Spec.maxInter
    refine if_congr (pos_count _) ?_ rfl
    refine sup_lanes _ _ (fun l => ?_) (fun k h => ?_)
    · refine sup_lanes _ _ (fun l' => ?_) (fun k h => if_neg (pair_high2 lab _ k h))
      show (if PairX lab (lane l) (lane l') then k0_pay25 k0_pay17 (k0_pay18 n) s (ix2 (lane l) (lane l')) else ⊥) = _
      rw [inter_lane n s lab X hn hs]
      exact if_congr (pair_lane lab l l') rfl rfl
    · exact (Finset.sup_congr rfl fun j _ => if_neg (pair_high1 lab k j h)).trans (Finset.sup_bot _)
  · unfold Spec.minIntra
    refine if_congr (pos_count _) ?_ rfl
    refine inf_lanes _ _ (fun l => ?_) (fun k h => ?_)
    · rw [ext_lane, ext_lane]
      congr!
    · rw [ext_high _ k h]
      exact if_neg (by norm_num)

include hy in
/-- The kernel's row is the row of the specification. -/
theorem statRow_val (j : Fin 4) : statRow n y s (ix2 0 j) = Spec.stat lab X j := by
  have h0 := entropy_val n lab X hn
  have hf := few_val n lab hn
  have hA := hA_val n y lab X hn hy
  have hR := hR_val n s lab X hn hs
  have hG := gap_val n y s lab X hn hy hs
  unfold statRow
  rw [h0, hA, hR, hG, hf]
  pointwise [k0_pay33, k0_pay32, nPres_val n lab hn]
  simp only [few_count]
  have e1 : Spec.stat lab X 1 = if Spec.nPres lab ≤ 1 then 0 else Spec.hA lab X := rfl
  have e2 : Spec.stat lab X 2 = if Spec.nPres lab ≤ 1 then 0 else Spec.hR lab X := rfl
  have e3 : Spec.stat lab X 3 = if Spec.nPres lab ≤ 1 then 0 else Spec.maxInter lab X - Spec.minIntra lab X := rfl
  rw [← e1, ← e2, ← e3]
  generalize Spec.stat lab X = f
  rcases j with ⟨i, hi⟩
  interval_cases i <;> rfl

end Cert.KernelIdeal.Val
-- ==== Proof.Math.KTable.lean ====
/- The kernel's table of statistics, from its arguments. -/
module

public import proofs.«01_k».proof.Proof.Kern.Launch
public import proofs.«01_k».proof.Proof.Math.KStat

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Kern
open Idealize.ShloMosaic.VecWindow (window put)

variable (m : (ℓ : Loc nD τ sig) → Buf (Elt Ideal) ℓ)

/-! ## The blocks are slices of the arguments -/

theorem index_0 (t : Fin cfg0.N) : win0_0.index t 0 = t.val % 40 ∧ win0_0.index t 1 = 0 := by
  have hN : t.val < 80 := lt_of_lt_of_eq t.isLt (show cfg0.N = 80 from N_0)
  have e1 : (grid0.coords t 1).val = t.val / 1 % 40 := Pipeline.Grid.coords_val t 1 (by decide) rfl
  refine ⟨?_, rfl⟩
  show (BitVec.ofNat 32 (grid0.coords t 1).val).toNat = _
  rw [e1, BitVec.toNat_ofNat]
  omega

theorem index_1 (t : Fin cfg0.N) : win0_1.index t 0 = t.val % 40 ∧ win0_1.index t 1 = 0 := index_0 t

theorem xs_at (c : Dev nD) (n : ℕ) (r : Fin 4000) (d : Fin 128) : xs m c n (ix2 r d) = m ((c : Thread nD τ).loc main_arg0) (ix2 (at40 n r) d) := by
  have hi := index_0 (pt n)
  have hp : (pt n).val % 40 = n % 40 := by show n % 80 % 40 = n % 40; omega
  unfold xs iblk
  rw [View.read_apply]
  show V m c main_arg0 _ = m (c.tc.loc main_arg0) _
  unfold V
  congr 1
  funext b
  apply Fin.ext
  match b with
  | ⟨0, _⟩ => show win0_0.index (pt n) 0 * 4000 + 1 * r.val = (n % 40) * 4000 + r.val; rw [hi.1, hp]; omega
  | ⟨1, _⟩ => show win0_0.index (pt n) 1 * 128 + 1 * d.val = d.val; rw [hi.2]; omega

theorem asn_at (c : Dev nD) (n : ℕ) (r : Fin 4000) (d : Fin 4) : asn m c n (ix2 r d) = m ((c : Thread nD τ).loc main_arg1) (ix2 (at40 n r) d) := by
  have hi := index_1 (pt n)
  have hp : (pt n).val % 40 = n % 40 := by show n % 80 % 40 = n % 40; omega
  unfold asn iblk
  rw [View.read_apply]
  show V m c main_arg1 _ = m (c.tc.loc main_arg1) _
  unfold V
  congr 1
  funext b
  apply Fin.ext
  match b with
  | ⟨0, _⟩ => show win0_1.index (pt n) 0 * 4000 + 1 * r.val = (n % 40) * 4000 + r.val; rw [hi.1, hp]; omega
  | ⟨1, _⟩ => show win0_1.index (pt n) 1 * 4 + 1 * d.val = d.val; rw [hi.2]; omega

variable (c : Dev nD) (L : Fin 4 → Fin 160000 → Fin 100) (XX : Fin 160000 → Fin 128 → ℝ)
variable (hx : ∀ r d, m ((c : Thread nD τ).loc main_arg0) (ix2 r d) = ((XX r d : ℝ) : EReal))
variable (ha : ∀ r k, m ((c : Thread nD τ).loc main_arg1) (ix2 r k) = BitVec.ofNat 32 (L k r).val)
include hx ha

/-- One configuration's row, from the windows of the three accumulators. -/
theorem row_of (k : Fin 4) (j : Fin 4) (n : Vec Ideal S128x1 .f32) (y : Vec Ideal S1x128 .f32) (s : Vec Ideal S128x128 .f32)
    (en : ∀ i, n (ix2 i 0) = trC (xs m c) (asn m c) 79 (ix2 (at4 k i) 0)) (ey : ∀ i, y (ix2 0 i) = trI (xs m c) (asn m c) 79 (ix2 k i))
    (es : ∀ i d, s (ix2 i d) = trS (xs m c) (asn m c) 79 (ix2 (at4 k i) d)) : statRow n y s (ix2 0 j) = Spec.stat (L k) XX j := by
  have hA : ∀ n r k, asn m c n (ix2 r k) = BitVec.ofNat 32 (L k (at40 n r)).val := fun n r k => (asn_at m c n r k).trans (ha _ k)
  have hX : ∀ n r d, xs m c n (ix2 r d) = ((XX (at40 n r) d : ℝ) : EReal) := fun n r d => (xs_at m c n r d).trans (hx _ d)
  refine statRow_val n y s (L k) XX (fun i => ?_) (fun i => ?_) (fun i d => ?_) j
  · rw [en, trC_end _ _ 79 (by decide), counts_val _ _ L hA]
  · rw [ey, spreads_val _ _ L XX hA hX]
  · rw [es, trS_end _ _ 79 (by decide), sums_val _ _ L XX hA hX]

/-- The kernel's table is the table of the specification. -/
theorem table (k j : Fin 4) : trE (xs m c) (asn m c) (ix2 k j) = Spec.stat (L k) XX j := by
  have R := row_of m c L XX hx ha
  unfold trE stepE
  rw [statRow1_eq, statRow2_eq, statRow3_eq]
  refine (put_row _ 3 _ k j).trans ?_
  split_ifs with h3
  · obtain rfl : k = 3 := Fin.ext h3
    exact R 3 j _ _ _ (fun i => window_blk _ 3 384 rfl _ i 0) (fun i => window_row _ 3 _ i) (fun i d => window_blk _ 3 384 rfl _ i d)
  refine (put_row _ 2 _ k j).trans ?_
  split_ifs with h2
  · obtain rfl : k = 2 := Fin.ext h2
    exact R 2 j _ _ _ (fun i => window_blk _ 2 256 rfl _ i 0) (fun i => window_row _ 2 _ i) (fun i d => window_blk _ 2 256 rfl _ i d)
  refine (put_row _ 1 _ k j).trans ?_
  split_ifs with h1
  · obtain rfl : k = 1 := Fin.ext h1
    exact R 1 j _ _ _ (fun i => window_blk _ 1 128 rfl _ i 0) (fun i => window_row _ 1 _ i) (fun i d => window_blk _ 1 128 rfl _ i d)
  refine (put_row _ 0 _ k j).trans ?_
  have h0 : k.val = 0 := by omega
  rw [if_pos h0]
  obtain rfl : k = 0 := Fin.ext h0
  exact R 0 j _ _ _ (fun i => window_blk _ 0 0 rfl _ i 0) (fun i => window_row _ 0 _ i) (fun i d => window_blk _ 0 0 rfl _ i d)

end Cert.KernelIdeal.Val
-- ==== Proof.Math.RefDefs.lean ====
/-
  The reference's statistics of ONE labelling, as functions of that labelling and of the features; the reference's table is
  these functions at its four columns of labels.
-/
module

public import proofs.«01_k».proof.Proof.Gen.ReferenceIdeal.Run

@[expose] public section

set_option maxRecDepth 16384

noncomputable section

namespace Cert.ReferenceIdeal.Stat

open Idealize.ShloMosaic Idealize.ShloMosaic.TcCoe Idealize.SL.Sem
open Cert.ReferenceIdeal Cert.ReferenceIdeal.Gen Cert.ReferenceIdeal.Value

variable {F : FTy → Type} [FloatOps F]

/-- How many rows have each label. -/
def rCnt (a : IVec S160000 32) : FVec F S100 .f32 :=
  Host.scatterAdd scatter_S100_S160000x1_S160000_n_0_0_1 (broadcastInDim S100 ![] bcast_S_S100 (constant S_ .f32 0x00000000#32)) (broadcastInDim S160000x1 ![0] bcast_S160000_S160000x1_0 a) (broadcastInDim S160000 ![] bcast_S_S160000 (constant S_ .f32 0x3F800000#32))

/-- The share of the rows that have each label, plus the small constant. -/
def rProb (a : IVec S160000 32) : FVec F S100 .f32 :=
  addf (Host.divf (rCnt (F := F) a) (broadcastInDim S100 ![] bcast_S_S100 (Host.reduceAdd (rCnt (F := F) a) (constant S_ .f32 0x00000000#32) reducesTo_S100_S_d0 h_S_))) (broadcastInDim S100 ![] bcast_S_S100 (constant S_ .f32 0x2EDBE6FF#32))

/-- The counts, at least one. -/
def rSafe (a : IVec S160000 32) : FVec F S100 .f32 :=
  maximumf (rCnt (F := F) a) (broadcastInDim S100 ![] bcast_S_S100 (constant S_ .f32 0x3F800000#32))

/-- The mean row of each label. -/
def rCent (a : IVec S160000 32) (x : FVec F S160000x128 .f32) : FVec F S100x128 .f32 :=
  Host.divf (Host.scatterAdd scatter_S100x128_S160000x1_S160000x128_1_0_0_1 (broadcastInDim S100x128 ![] bcast_S_S100x128 (constant S_ .f32 0x00000000#32)) (broadcastInDim S160000x1 ![0] bcast_S160000_S160000x1_0 a) x) (broadcastInDim S100x128 ![0, 1] bcast_S100x1_S100x128_0_1 (broadcastInDim S100x1 ![0] bcast_S100_S100x1_0 (rSafe (F := F) a)))

/-- Each row minus the mean row of its label. -/
def rDiff (a : IVec S160000 32) (x : FVec F S160000x128 .f32) : FVec F S160000x128 .f32 :=
  subf x (Host.gather gather_S100x128_S160000x1_S160000x128_1_0_n_n_0_1_1128 (rCent (F := F) a x) (broadcastInDim S160000x1 ![0] bcast_S160000_S160000x1_0 (select (cmpi .slt a (broadcastInDim S160000 ![] bcast_S_S160000 (constantI S_ 32 0#32))) (addi a (broadcastInDim S160000 ![] bcast_S_S160000 (constantI S_ 32 100#32))) a)))

/-- The squared length of that difference. -/
def rSq (a : IVec S160000 32) (x : FVec F S160000x128 .f32) : FVec F S160000 .f32 :=
  Host.reduceAdd (mulf (rDiff (F := F) a x) (rDiff (F := F) a x)) (constant S_ .f32 0x00000000#32) reducesTo_S160000x128_S160000_d1 h_S_

/-- Where that squared length is positive. -/
def rPos (a : IVec S160000 32) (x : FVec F S160000x128 .f32) : IVec S160000 1 :=
  cmpf .ogt (rSq (F := F) a x) (broadcastInDim S160000 ![] bcast_S_S160000 (constant S_ .f32 0x00000000#32))

/-- The mean distance to the mean row, per label. -/
def rMean (a : IVec S160000 32) (x : FVec F S160000x128 .f32) : FVec F S100 .f32 :=
  Host.divf (Host.scatterAdd scatter_S100_S160000x1_S160000_n_0_0_1 (broadcastInDim S100 ![] bcast_S_S100 (constant S_ .f32 0x00000000#32)) (broadcastInDim S160000x1 ![0] bcast_S160000_S160000x1_0 a) (select (rPos (F := F) a x) (Host.sqrt (select (rPos (F := F) a x) (rSq (F := F) a x) (broadcastInDim S160000 ![] bcast_S_S160000 (id (constant S_ .f32 0x3F800000#32))))) (broadcastInDim S160000 ![] bcast_S_S160000 (id (constant S_ .f32 0x00000000#32))))) (rSafe (F := F) a)

/-- The labels with more than one row. -/
def rValid (a : IVec S160000 32) : IVec S100 1 :=
  cmpf .ogt (rCnt (F := F) a) (broadcastInDim S100 ![] bcast_S_S100 (constant S_ .f32 0x3F800000#32))

/-- How many such labels there are. -/
def rNv (a : IVec S160000 32) : IVec S_ 32 :=
  Host.reduce IntOp.addi (extui 32 (rValid (F := F) a) natLt_1_32) (constantI S_ 32 0#32) reducesTo_S100_S_d0 h_S_

/-- The labels with at least one row. -/
def rPres (a : IVec S160000 32) : IVec S100 1 :=
  cmpf .ogt (rCnt (F := F) a) (broadcastInDim S100 ![] bcast_S_S100 (constant S_ .f32 0x00000000#32))

/-- The difference of the mean rows of each pair of labels. -/
def rCd (a : IVec S160000 32) (x : FVec F S160000x128 .f32) : FVec F S100x100x128 .f32 :=
  subf (broadcastInDim S100x100x128 ![0, 1, 2] bcast_S100x1x128_S100x100x128_0_1_2 (broadcastInDim S100x1x128 ![0, 2] bcast_S100x128_S100x1x128_0_2 (rCent (F := F) a x))) (broadcastInDim S100x100x128 ![0, 1, 2] bcast_S1x100x128_S100x100x128_0_1_2 (broadcastInDim S1x100x128 ![1, 2] bcast_S100x128_S1x100x128_1_2 (rCent (F := F) a x)))

/-- The squared distance of each pair. -/
def rInt2 (a : IVec S160000 32) (x : FVec F S160000x128 .f32) : FVec F S100x100 .f32 :=
  Host.reduceAdd (mulf (rCd (F := F) a x) (rCd (F := F) a x)) (constant S_ .f32 0x00000000#32) reducesTo_S100x100x128_S100x100_d2 h_S_

/-- Where that is positive. -/
def rIpos (a : IVec S160000 32) (x : FVec F S160000x128 .f32) : IVec S100x100 1 :=
  cmpf .ogt (rInt2 (F := F) a x) (broadcastInDim S100x100 ![] bcast_S_S100x100 (constant S_ .f32 0x00000000#32))

/-- The distance of each pair. -/
def rInter (a : IVec S160000 32) (x : FVec F S160000x128 .f32) : FVec F S100x100 .f32 :=
  select (rIpos (F := F) a x) (Host.sqrt (select (rIpos (F := F) a x) (rInt2 (F := F) a x) (broadcastInDim S100x100 ![] bcast_S_S100x100 (id (constant S_ .f32 0x3F800000#32))))) (broadcastInDim S100x100 ![] bcast_S_S100x100 (id (constant S_ .f32 0x00000000#32)))

/-- The pairs of present labels, the smaller first. -/
def rMask (a : IVec S160000 32) : IVec S100x100 1 :=
  andi (andi (select (cmpi .sge (addi (iotaInDim S100x100 32 0) (broadcastInDim S100x100 ![] bcast_S_S100x100 (constantI S_ 32 0#32))) (iotaInDim S100x100 32 1)) (broadcastInDim S100x100 ![] bcast_S_S100x100 (constantI S_ 1 0#1)) (broadcastInDim S100x100 ![] bcast_S_S100x100 (constantI S_ 1 1#1))) (broadcastInDim S100x100 ![0, 1] bcast_S100x1_S100x100_0_1 (broadcastInDim S100x1 ![0] bcast_S100_S100x1_0 (rPres (F := F) a)))) (broadcastInDim S100x100 ![0, 1] bcast_S1x100_S100x100_0_1 (broadcastInDim S1x100 ![1] bcast_S100_S1x100_1 (rPres (F := F) a)))

/-- How many such pairs there are. -/
def rNp (a : IVec S160000 32) : IVec S_ 32 :=
  Host.reduce IntOp.addi (extui 32 (rMask (F := F) a) natLt_1_32) (constantI S_ 32 0#32) reducesTo_S100x100_S_d0_1 h_S_

/-- Whether at most one label is present. -/
def rFew (a : IVec S160000 32) : IVec S_ 1 :=
  cmpi .sle (Host.reduce IntOp.addi (extui 32 (rPres (F := F) a) natLt_1_32) (constantI S_ 32 0#32) reducesTo_S100_S_d0 h_S_) (constantI S_ 32 1#32)

/-- The entropy of the shares. -/
def rE0 (a : IVec S160000 32) : FVec F S_ .f32 :=
  (Host.negf (Host.reduceAdd (mulf (rProb (F := F) a) (Host.log (rProb (F := F) a))) (constant S_ .f32 0x00000000#32) reducesTo_S100_S_d0 h_S_))

/-- The mean of the mean distances. -/
def rE1 (a : IVec S160000 32) (x : FVec F S160000x128 .f32) : FVec F S_ .f32 :=
  (select (rFew (F := F) a) (constant S_ .f32 0x00000000#32) (select (cmpi .sgt (rNv (F := F) a) (constantI S_ 32 0#32)) (Host.divf (Host.reduceAdd (select (rValid (F := F) a) (rMean (F := F) a x) (broadcastInDim S100 ![] bcast_S_S100 (id (constant S_ .f32 0x00000000#32)))) (constant S_ .f32 0x00000000#32) reducesTo_S100_S_d0 h_S_) (sitofp .f32 (maxsi (rNv (F := F) a) (constantI S_ 32 1#32)))) (id (constant S_ .f32 0x00000000#32))))

/-- The mean distance of the pairs. -/
def rE2 (a : IVec S160000 32) (x : FVec F S160000x128 .f32) : FVec F S_ .f32 :=
  (select (rFew (F := F) a) (constant S_ .f32 0x00000000#32) (select (cmpi .sgt (rNp (F := F) a) (constantI S_ 32 0#32)) (Host.divf (Host.reduceAdd (select (rMask (F := F) a) (rInter (F := F) a x) (broadcastInDim S100x100 ![] bcast_S_S100x100 (id (constant S_ .f32 0x00000000#32)))) (constant S_ .f32 0x00000000#32) reducesTo_S100x100_S_d0_1 h_S_) (sitofp .f32 (maxsi (rNp (F := F) a) (constantI S_ 32 1#32)))) (id (constant S_ .f32 0x00000000#32))))

/-- The greatest distance of a pair minus the least mean distance. -/
def rE3 (a : IVec S160000 32) (x : FVec F S160000x128 .f32) : FVec F S_ .f32 :=
  (select (rFew (F := F) a) (constant S_ .f32 0x00000000#32) (subf (select (cmpi .sgt (rNp (F := F) a) (constantI S_ 32 0#32)) (Host.reduce FloatOps.maximumf (select (rMask (F := F) a) (rInter (F := F) a x) (broadcastInDim S100x100 ![] bcast_S_S100x100 (id (constant S_ .f32 0xFF800000#32)))) (constant S_ .f32 0xFF800000#32) reducesTo_S100x100_S_d0_1 h_S_) (id (constant S_ .f32 0x00000000#32))) (select (cmpi .sgt (rNv (F := F) a) (constantI S_ 32 0#32)) (Host.reduce FloatOps.minimumf (select (rValid (F := F) a) (rMean (F := F) a x) (broadcastInDim S100 ![] bcast_S_S100 (id (constant S_ .f32 0x7F800000#32)))) (constant S_ .f32 0x7F800000#32) reducesTo_S100_S_d0 h_S_) (id (constant S_ .f32 0x00000000#32)))))

/-- The four statistics of one labelling. -/
def rRow (a : IVec S160000 32) (x : FVec F S160000x128 .f32) : FVec F S1x4 .f32 :=
  (broadcastInDim S1x4 ![1] bcast_S4_S1x4_1 ((concatenate S4 0 [⟨S1, ((broadcastInDim S1 ![] bcast_S_S1 (rE0 a)))⟩, ⟨S1, ((broadcastInDim S1 ![] bcast_S_S1 (rE1 a x)))⟩, ⟨S1, ((broadcastInDim S1 ![] bcast_S_S1 (rE2 a x)))⟩, ⟨S1, ((broadcastInDim S1 ![] bcast_S_S1 (rE3 a x)))⟩] concatenates_S1_S1_S1_S1_S4_d0)))

/-- The reference's table of statistics is made of the four labellings' rows. -/
theorem table_eq (V0 : Valuation τ sig (Elt F)) :
    res_main_v420 V0 = concatenate S4x4 0 [⟨S1x4, rRow (res_main_v1 V0) (V0 (Proc.devRef .tc main_arg0))⟩,
      ⟨S1x4, rRow (res_main_v105 V0) (V0 (Proc.devRef .tc main_arg0))⟩, ⟨S1x4, rRow (res_main_v209 V0) (V0 (Proc.devRef .tc main_arg0))⟩,
      ⟨S1x4, rRow (res_main_v313 V0) (V0 (Proc.devRef .tc main_arg0))⟩] concatenates_S1x4_S1x4_S1x4_S1x4_S4x4_d0 := rfl

end Cert.ReferenceIdeal.Stat
-- ==== Proof.Math.RefScatter.lean ====
/- The segment sums and the row look-up of the reference, read at one element. -/
module

public import proofs.«01_k».proof.Proof.Math.RefDefs
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Stat

open Idealize.ShloMosaic Idealize.ShloMosaic.TcCoe Idealize.SL.Sem
open Cert.ReferenceIdeal Cert.ReferenceIdeal.Gen

/-- Adding scalars at labelled places: each place collects the scalars whose label word is that place. -/
theorem scatter_vec (x : FVec Ideal S100 .f32) (idx : IVec S160000x1 32) (upd : FVec Ideal S160000 .f32) (k : Fin 100) :
    Host.scatterAdd scatter_S100_S160000x1_S160000_n_0_0_1 x idx upd (ix1 k)
      = x (ix1 k) + ∑ r : Fin 160000, if (idx (ix2 r 0)).toInt = (k.val : Int) then upd (ix1 r) else 0 := by
  show x (ix1 k) + Finset.sum _ _ = _
  rw [Finset.sum_filter, sum_idx1]
  refine congrArg _ (Finset.sum_congr rfl fun r _ => ?_)
  refine if_congr ?_ rfl rfl
  rw [Routing.resultIdx?_eq_some]
  have e : ∀ a : Fin 1, ScatterDims.start scatter_S100_S160000x1_S160000_n_0_0_1 (ix1 r) idx a
      + (ScatterDims.window scatter_S100_S160000x1_S160000_n_0_0_1 (ix1 r) a : Int) = (idx (ix2 r 0)).toInt := by
    intro a
    obtain rfl : a = 0 := Subsingleton.elim _ _
    have h1 : ScatterDims.window scatter_S100_S160000x1_S160000_n_0_0_1 (ix1 r) 0 = 0 := rfl
    have h2 : ScatterDims.start scatter_S100_S160000x1_S160000_n_0_0_1 (ix1 r) idx 0 = (idx (ix2 r 0)).toInt := by
      unfold ScatterDims.start
      rw [dif_pos (by decide)]
      refine congrArg (fun i => (idx i).toInt) ?_
      funext b
      fin_cases b <;> rfl
    rw [h1, h2]; simp
  constructor
  · intro h; have := h 0; rw [e 0] at this; exact this
  · intro h a; rw [e a, h]; obtain rfl : a = 0 := Subsingleton.elim _ _; rfl

/-- Adding rows at labelled places: each place collects, column by column, the rows whose label word is that place. -/
theorem scatter_rows (x : FVec Ideal S100x128 .f32) (idx : IVec S160000x1 32) (upd : FVec Ideal S160000x128 .f32) (k : Fin 100)
    (q : Fin 128) :
    Host.scatterAdd scatter_S100x128_S160000x1_S160000x128_1_0_0_1 x idx upd (ix2 k q)
      = x (ix2 k q) + ∑ r : Fin 160000, if (idx (ix2 r 0)).toInt = (k.val : Int) then upd (ix2 r q) else 0 := by
  show x (ix2 k q) + Finset.sum _ _ = _
  rw [Finset.sum_filter, sum_idx2]
  refine congrArg _ (Finset.sum_congr rfl fun r _ => ?_)
  have key : ∀ p : Fin 128, (ScatterDims.resultIdx? scatter_S100x128_S160000x1_S160000x128_1_0_0_1 (ix2 r p) idx = some (ix2 k q))
      ↔ ((idx (ix2 r 0)).toInt = (k.val : Int) ∧ p = q) := by
    intro p
    rw [Routing.resultIdx?_eq_some]
    have w0 : ScatterDims.window scatter_S100x128_S160000x1_S160000x128_1_0_0_1 (ix2 r p) 0 = 0 := rfl
    have w1 : ScatterDims.window scatter_S100x128_S160000x1_S160000x128_1_0_0_1 (ix2 r p) 1 = p.val := rfl
    have s1 : ScatterDims.start scatter_S100x128_S160000x1_S160000x128_1_0_0_1 (ix2 r p) idx 1 = 0 := by
      unfold ScatterDims.start
      rw [dif_neg (by decide)]
    have s0 : ScatterDims.start scatter_S100x128_S160000x1_S160000x128_1_0_0_1 (ix2 r p) idx 0 = (idx (ix2 r 0)).toInt := by
      unfold ScatterDims.start
      rw [dif_pos (by decide)]
      refine congrArg (fun i => (idx i).toInt) ?_
      funext b
      fin_cases b <;> rfl
    constructor
    · intro h
      have h0 := h 0
      have h1 := h 1
      rw [w0, s0] at h0
      rw [w1, s1] at h1
      refine ⟨by simpa using h0, Fin.ext ?_⟩
      have : (0 : Int) + (p.val : Int) = (q.val : Int) := h1
      omega
    · rintro ⟨h, rfl⟩ a
      have ha : a = 0 ∨ a = 1 := by
        have := a.isLt
        change a.val < 2 at this
        rcases Nat.lt_or_ge a.val 1 with h' | h'
        · exact Or.inl (Fin.ext (by show a.val = 0; omega))
        · exact Or.inr (Fin.ext (by show a.val = 1; omega))
      rcases ha with rfl | rfl
      · rw [w0, s0, h]; simp
      · rw [w1, s1]; simp
  rw [Finset.sum_congr rfl fun p _ => if_congr (key p) rfl rfl]
  by_cases h : (idx (ix2 r 0)).toInt = (k.val : Int)
  · simp only [h, true_and, if_true]
    rw [Finset.sum_ite_eq' Finset.univ q (fun p => upd (ix2 r p))]
    simp
  · simp only [h, false_and, if_false]
    simp

/-- The row look-up: where the label word is `b`, the looked-up row is row `b` of the table. -/
theorem look_up (x : FVec Ideal S100x128 .f32) (idx : IVec S160000x1 32) (r : Fin 160000) (q : Fin 128) (b : Fin 100)
    (hb : idx (ix2 r 0) = BitVec.ofNat 32 b.val) :
    Host.gather gather_S100x128_S160000x1_S160000x128_1_0_n_n_0_1_1128 x idx (ix2 r q) = x (ix2 b q) :=
  Routing.gather_row (nb := 100) (B := 128) (n := 160000) gather_S100x128_S160000x1_S160000x128_1_0_n_n_0_1_1128 rfl rfl rfl rfl rfl x idx r q b hb (by norm_num)

end Cert.ReferenceIdeal.Stat
-- ==== Proof.Math.RefVal.lean ====
/- The reference of one labelling: its counts, mean rows and distances are those of the specification. -/
module

public import proofs.«01_k».proof.Proof.Math.RefScatter
public import proofs.«01_k».proof.Proof.Math.Spec

@[expose] public section

set_option maxRecDepth 16384

noncomputable section

namespace Cert.ReferenceIdeal.Stat

open Idealize.ShloMosaic Idealize.ShloMosaic.TcCoe Idealize.SL.Sem
open Cert.ReferenceIdeal Cert.ReferenceIdeal.Gen

variable (a : IVec S160000 32) (x : FVec Ideal S160000x128 .f32) (lab : Fin 160000 → Fin 100) (X : Fin 160000 → Fin 128 → ℝ)

theorem lab_toInt (b : Fin 100) : (BitVec.ofNat 32 b.val).toInt = (b.val : Int) :=
  StableHlo.Predicate.toInt_ofNat_small _ (by have := b.isLt; omega)

theorem lab_eq (b k : Fin 100) : ((BitVec.ofNat 32 b.val).toInt = (k.val : Int)) ↔ b = k := by
  rw [lab_toInt]; constructor
  · intro h; exact Fin.ext (by omega)
  · rintro rfl; rfl

theorem div_congr (n : ℕ) (f g : Fin n → EReal) (y : EReal) (h : ∀ r, f r = g r) :
    Ideal.div (∑ r, f r) y = Ideal.div (∑ r, g r) y := by rw [Finset.sum_congr rfl fun r _ => h r]

variable (ha : ∀ r, a (ix1 r) = BitVec.ofNat 32 (lab r).val) (hx : ∀ r d, x (ix2 r d) = ((X r d : ℝ) : EReal))
include ha

theorem rCnt_val (k : Fin 100) : rCnt (F := Ideal) a (ix1 k) = ((Spec.cnt lab k : ℝ) : EReal) := by
  unfold rCnt
  rw [scatter_vec]
  pointwise [ha]
  simp only [lab_eq, zero_add]
  rw [Spec.cnt, ← Spec.coe_sum]
  refine Finset.sum_congr rfl fun r _ => ?_
  split <;> simp

theorem rSafe_val (k : Fin 100) : rSafe (F := Ideal) a (ix1 k) = ((max (Spec.cnt lab k) 1 : ℝ) : EReal) := by
  pointwise [rSafe, rCnt_val a lab ha]
  rw [← Spec.coe_max]; rfl

include hx

theorem rCent_val (k : Fin 100) (q : Fin 128) : rCent (F := Ideal) a x (ix2 k q) = ((Spec.cent lab X k q : ℝ) : EReal) := by
  pointwise [rCent, rSafe_val a lab ha]
  rw [scatter_rows]
  pointwise [ha, hx]
  simp only [lab_eq, zero_add]
  rw [Spec.cent, ← Spec.div_real _ _ (Spec.max_cnt_ne lab k), Spec.tot, ← Spec.coe_sum]
  exact div_congr _ _ _ _ (fun r => by split <;> simp)

theorem rDiff_val (r : Fin 160000) (q : Fin 128) :
    rDiff (F := Ideal) a x (ix2 r q) = ((X r q - Spec.cent lab X (lab r) q : ℝ) : EReal) := by
  pointwise [rDiff, hx]
  rw [look_up _ _ r q (lab r), rCent_val a x lab X ha hx, EReal.coe_sub]
  pointwise [ha]
  have h := (lab r).isLt
  rw [Routing.wrap_of_lt]
  simp; omega

theorem rSq_val (r : Fin 160000) : rSq (F := Ideal) a x (ix1 r)
    = ((∑ d, (X r d - Spec.cent lab X (lab r) d) * (X r d - Spec.cent lab X (lab r) d) : ℝ) : EReal) := by
  pointwise [rSq, rDiff_val a x lab X ha hx]
  rw [← Spec.coe_sum]
  exact Finset.sum_congr rfl fun d _ => (EReal.coe_mul _ _).symm

theorem rMean_val (k : Fin 100) : rMean (F := Ideal) a x (ix1 k) = ((Spec.mean lab X k : ℝ) : EReal) := by
  pointwise [rMean, rSafe_val a lab ha]
  rw [scatter_vec]
  pointwise [ha, rPos, id_eq, rSq_val a x lab X ha hx]
  simp only [lab_eq, zero_add]
  rw [Spec.mean, ← Spec.div_real _ _ (Spec.max_cnt_ne lab k), Spec.spread, ← Spec.coe_sum]
  exact div_congr _ _ _ _ (fun r => by
    rw [Spec.guarded_sqrt _ (Finset.sum_nonneg fun d _ => mul_self_nonneg _)]
    split <;> simp [Spec.dist])

theorem rInt2_val (i j : Fin 100) : rInt2 (F := Ideal) a x (ix2 i j)
    = ((∑ d, (Spec.cent lab X i d - Spec.cent lab X j d) * (Spec.cent lab X i d - Spec.cent lab X j d) : ℝ) : EReal) := by
  pointwise [rInt2, rCd, rCent_val a x lab X ha hx]
  rw [← Spec.coe_sum]
  exact Finset.sum_congr rfl fun d _ => by rw [EReal.coe_mul, EReal.coe_sub]

theorem rInter_val (i j : Fin 100) : rInter (F := Ideal) a x (ix2 i j) = ((Spec.inter lab X i j : ℝ) : EReal) := by
  pointwise [rInter, rIpos, id_eq, rInt2_val a x lab X ha hx]
  rw [Spec.guarded_sqrt _ (Finset.sum_nonneg fun d _ => mul_self_nonneg _), Spec.inter]

end Cert.ReferenceIdeal.Stat
-- ==== Proof.Math.RefCount.lean ====
/- The counts of labels and of pairs that the reference takes as integers. -/
module

public import proofs.«01_k».proof.Proof.Math.RefVal

@[expose] public section

set_option maxRecDepth 16384

noncomputable section

namespace Cert.ReferenceIdeal.Stat

open Idealize.ShloMosaic Idealize.ShloMosaic.TcCoe Idealize.SL.Sem
open Cert.ReferenceIdeal Cert.ReferenceIdeal.Gen

variable (a : IVec S160000 32) (x : FVec Ideal S160000x128 .f32) (lab : Fin 160000 → Fin 100) (X : Fin 160000 → Fin 128 → ℝ)
variable (ha : ∀ r, a (ix1 r) = BitVec.ofNat 32 (lab r).val) (hx : ∀ r d, x (ix2 r d) = ((X r d : ℝ) : EReal))

/-- A sum of widened truth values is the number of the true ones. -/
theorem count_word {ι : Type*} [DecidableEq ι] (s : Finset ι) (P : ι → Prop) [DecidablePred P] :
    Finset.fold IntOp.addi (0#32) (fun i => BitVec.setWidth 32 (BitVec.ofBool (decide (P i)))) s = BitVec.ofNat 32 (s.filter P).card := by
  induction s using Finset.induction_on with
  | empty => rfl
  | insert b s h ih =>
    rw [Finset.fold_insert h, ih, Finset.filter_insert]
    by_cases hp : P b
    · rw [if_pos hp, Finset.card_insert_of_notMem (by simp [h])]
      simp only [hp, decide_true]
      show (1#32 : BitVec 32) + _ = _
      rw [Nat.add_comm, BitVec.ofNat_add]
    · rw [if_neg hp]
      simp only [hp, decide_false]
      show (0#32 : BitVec 32) + _ = _
      simp

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem upper_word (i j : Fin 100) :
    Scalar.select (IntOp.cmpi CmpIPredicate.sge (IntOp.addi (BitVec.ofNat 32 i.val) 0#32) (BitVec.ofNat 32 j.val)) 0#1 1#1
      = BitVec.ofBool (decide (i < j)) := by
  have h1 := lab_toInt i
  have h2 := lab_toInt j
  have e : IntOp.addi (BitVec.ofNat 32 i.val) 0#32 = BitVec.ofNat 32 i.val := by show BitVec.ofNat 32 i.val + 0#32 = _; simp
  rw [e]
  by_cases h : i < j
  · simp only [h, decide_true]
    unfold IntOp.cmpi Scalar.select
    have : (BitVec.ofNat 32 j.val).sle (BitVec.ofNat 32 i.val) = false := by
      simp only [BitVec.sle, decide_eq_false_iff_not, h1, h2]; have : i.val < j.val := h; omega
    simp [this]
  · simp only [h, decide_false]
    unfold IntOp.cmpi Scalar.select
    have : (BitVec.ofNat 32 j.val).sle (BitVec.ofNat 32 i.val) = true := by
      simp only [BitVec.sle, decide_eq_true_eq, h1, h2]; have : ¬ i.val < j.val := h; omega
    simp [this]

open Classical in
theorem real_lt (p q : ℝ) : decide ((p : EReal) < (q : EReal)) = decide (p < q) := by
  rw [decide_eq_decide]; exact EReal.coe_lt_coe_iff

open Classical in
include ha in
theorem rValid_val (k : Fin 100) : rValid (F := Ideal) a (ix1 k) = BitVec.ofBool (decide (1 < Spec.cnt lab k)) := by
  pointwise [rValid, rCnt_val a lab ha]
  congr 1
  rw [decide_eq_decide]; exact EReal.coe_lt_coe_iff (x := 1)

open Classical in
include ha in
theorem rPres_val (k : Fin 100) : rPres (F := Ideal) a (ix1 k) = BitVec.ofBool (decide (0 < Spec.cnt lab k)) := by
  pointwise [rPres, rCnt_val a lab ha]
  congr 1
  rw [decide_eq_decide]; exact EReal.coe_lt_coe_iff (x := 0)

open Classical in
include ha in
theorem rMask_val (i j : Fin 100) : rMask (F := Ideal) a (ix2 i j) = BitVec.ofBool (decide (Spec.Pair lab i j)) := by
  pointwise [rMask]
  rw [upper_word, rPres_val a lab ha, rPres_val a lab ha, and_bool, and_bool]
  exact congrArg _ (decide_eq_decide.2 Iff.rfl)

include ha in
theorem rNv_val : rNv (F := Ideal) a ix0 = BitVec.ofNat 32 (Spec.nValid lab) := by
  classical
  pointwise [rNv]
  simp only [rValid_val a lab ha]
  rw [count_word]
  rfl

include ha in
theorem rNp_val : rNp (F := Ideal) a ix0 = BitVec.ofNat 32 (Spec.nPair lab) := by
  classical
  pointwise [rNp]
  simp only [rMask_val a lab ha]
  rw [count_word]
  rfl

/-- A small count is kept by a 32-bit word. -/
theorem count_toInt (n : ℕ) (h : n ≤ 10000) : (BitVec.ofNat 32 n).toInt = n := by
  rw [BitVec.toInt_eq_toNat_cond, BitVec.toNat_ofNat]
  rw [Nat.mod_eq_of_lt (by omega), if_pos (by omega)]

theorem few_word (n : ℕ) (h : n ≤ 10000) : IntOp.cmpi CmpIPredicate.sle (BitVec.ofNat 32 n) 1#32 = BitVec.ofBool (decide (n ≤ 1)) := by
  unfold IntOp.cmpi
  simp only [BitVec.sle, count_toInt n h]
  congr 1
  rw [decide_eq_decide]
  show (n : Int) ≤ 1 ↔ _
  omega

theorem some_word {α : Type} (n : ℕ) (h : n ≤ 10000) (p q : α) :
    Scalar.select (IntOp.cmpi CmpIPredicate.sgt (BitVec.ofNat 32 n) 0#32) p q = if 0 < n then p else q := by
  have e : IntOp.cmpi CmpIPredicate.sgt (BitVec.ofNat 32 n) 0#32 = BitVec.ofBool (decide (0 < n)) := by
    unfold IntOp.cmpi
    simp only [BitVec.slt, count_toInt n h]
    congr 1
    rw [decide_eq_decide]
    show (0 : Int) < n ↔ _
    omega
  rw [e]
  by_cases hn : 0 < n
  · rw [if_pos hn]; simp [hn, Scalar.select]
  · rw [if_neg hn]; simp [hn, Scalar.select]

theorem max_word (n : ℕ) (h : n ≤ 10000) :
    (FloatOps.sitofp FTy.f32 (IntOp.maxsi (BitVec.ofNat 32 n) 1#32) : Ideal .f32) = max ((n : ℝ) : EReal) 1 := by
  show (((IntOp.maxsi (BitVec.ofNat 32 n) 1#32).toInt : ℝ) : EReal) = _
  have e : (IntOp.maxsi (BitVec.ofNat 32 n) 1#32).toInt = max (n : Int) 1 := by
    unfold IntOp.maxsi
    simp only [BitVec.slt, count_toInt n h]
    by_cases h1 : 1 < n
    · have h2 : (1#32 : BitVec 32).toInt < (n : Int) := by show (1 : Int) < n; omega
      simp only [h2, decide_true, if_true, count_toInt n h]
      omega
    · have h2 : ¬ (1#32 : BitVec 32).toInt < (n : Int) := by show ¬ (1 : Int) < n; omega
      simp only [h2, decide_false]
      show (1 : Int) = _
      omega
  rw [e]
  rcases le_total (n : Int) 1 with h1 | h1
  · rw [max_eq_right h1]
    have : ((n : ℝ) : EReal) ≤ 1 := by have : (n : ℝ) ≤ 1 := by exact_mod_cast h1
                                       exact_mod_cast this
    rw [max_eq_right this]; simp
  · rw [max_eq_left h1]
    have : (1 : EReal) ≤ ((n : ℝ) : EReal) := by have : (1 : ℝ) ≤ n := by exact_mod_cast h1
                                                 exact_mod_cast this
    rw [max_eq_left this]; simp

theorem nPres_le : Spec.nPres lab ≤ 10000 := le_trans (Finset.card_le_univ _) (by simp)
theorem nValid_le : Spec.nValid lab ≤ 10000 := le_trans (Finset.card_le_univ _) (by simp)
theorem nPair_le : Spec.nPair lab ≤ 10000 := le_trans (Finset.card_le_univ _) (by simp)

include ha in
theorem rFew_val : rFew (F := Ideal) a ix0 = BitVec.ofBool (decide (Spec.nPres lab ≤ 1)) := by
  classical
  pointwise [rFew]
  simp only [rPres_val a lab ha]
  rw [count_word, few_word _ (le_trans (Finset.card_le_univ _) (by simp))]
  rfl

end Cert.ReferenceIdeal.Stat
-- ==== Proof.Math.RefFin.lean ====
/- The reference's row of statistics of one column of labels. -/
module

public import proofs.«01_k».proof.Proof.Math.RefCount

@[expose] public section

set_option maxRecDepth 16384

noncomputable section

namespace Cert.ReferenceIdeal.Stat

open Idealize.ShloMosaic Idealize.ShloMosaic.TcCoe Idealize.SL.Sem
open Cert.ReferenceIdeal Cert.ReferenceIdeal.Gen

variable (a : IVec S160000 32) (x : FVec Ideal S160000x128 .f32) (lab : Fin 160000 → Fin 100) (X : Fin 160000 → Fin 128 → ℝ)
variable (ha : ∀ r, a (ix1 r) = BitVec.ofNat 32 (lab r).val) (hx : ∀ r d, x (ix2 r d) = ((X r d : ℝ) : EReal))

theorem top_word : Ideal.ofBits .f32 0x7F800000#32 = ⊤ := by simp [Ideal.ofBits, Ideal.ieee]
theorem bot_word : Ideal.ofBits .f32 0xFF800000#32 = ⊥ := by simp [Ideal.ofBits, Ideal.ieee]

/-- The greatest of a table is the greatest of its rows' greatest. -/
theorem sup_rows (f : Fin 100 × Fin 100 → EReal) :
    Finset.fold max ⊥ f Finset.univ = Finset.univ.sup fun i => Finset.univ.sup fun j => f (i, j) := by
  rw [← Finset.sup_product_left, Finset.univ_product_univ]; rfl

include ha in
theorem rE0_val : rE0 (F := Ideal) a ix0 = Spec.stat lab X 0 := by
  pointwise [rE0, rProb, rCnt_val a lab ha]
  rfl

include ha hx

theorem rE1_val : rE1 (F := Ideal) a x ix0 = Spec.stat lab X 1 := by
  pointwise [rE1, id_eq, rFew_val a lab ha, rNv_val a lab ha, rMean_val a x lab X ha hx, rValid_val a lab ha]
  rw [some_word _ (nValid_le lab), max_word _ (nValid_le lab)]
  rfl

theorem rE2_val : rE2 (F := Ideal) a x ix0 = Spec.stat lab X 2 := by
  pointwise [rE2, id_eq, rFew_val a lab ha, rNp_val a lab ha, rInter_val a x lab X ha hx, rMask_val a lab ha]
  rw [some_word _ (nPair_le lab), max_word _ (nPair_le lab)]
  try rw [Fintype.sum_prod_type]
  rfl

theorem rE3_val : rE3 (F := Ideal) a x ix0 = Spec.stat lab X 3 := by
  pointwise [rE3, id_eq, rFew_val a lab ha, rNv_val a lab ha, rMean_val a x lab X ha hx, rValid_val a lab ha,rNp_val a lab ha, rInter_val a x lab X ha hx, rMask_val a lab ha]
  rw [some_word _ (nValid_le lab), some_word _ (nPair_le lab), top_word, bot_word, sup_rows]
  rfl

/-- The row of the reference is the row of the specification. -/
theorem rRow_val (j : Fin 4) : rRow (F := Ideal) a x (ix2 0 j) = Spec.stat lab X j := by
  pointwise [rRow, id_eq]
  have h0 := rE0_val a lab X ha
  have h1 := rE1_val a x lab X ha hx
  have h2 := rE2_val a x lab X ha hx
  have h3 := rE3_val a x lab X ha hx
  generalize rE0 (F := Ideal) a ix0 = e0 at h0 ⊢
  generalize rE1 (F := Ideal) a x ix0 = e1 at h1 ⊢
  generalize rE2 (F := Ideal) a x ix0 = e2 at h2 ⊢
  generalize rE3 (F := Ideal) a x ix0 = e3 at h3 ⊢
  generalize Spec.stat lab X = f at h0 h1 h2 h3 ⊢
  subst h0 h1 h2 h3
  rcases j with ⟨n, hn⟩
  interval_cases n <;> rfl

end Cert.ReferenceIdeal.Stat
-- ==== Proof.Math.RefTable.lean ====
/- The reference's table of statistics, from its arguments. -/
module

public import proofs.«01_k».proof.Proof.Math.RefFin

@[expose] public section

set_option maxRecDepth 16384

noncomputable section

namespace Cert.ReferenceIdeal.Stat

open Idealize.ShloMosaic Idealize.ShloMosaic.TcCoe Idealize.SL.Sem
open Cert.ReferenceIdeal Cert.ReferenceIdeal.Gen Cert.ReferenceIdeal.Value

variable (V0 : Valuation τ sig (Elt Ideal))
variable (L : Fin 4 → Fin 160000 → Fin 100) (XX : Fin 160000 → Fin 128 → ℝ)

/-- A column of the labels, as a vector. -/
theorem column (A : IVec S160000x4 32) (k : Fin 4) (o : ℕ) (ho : o = k.val) (hs : S160000x4.Slices ![0, o] S160000x1) (hc : S160000x1.ShapeCasts S160000) (r : Fin 160000) :
    shapeCast S160000 (extractStridedSlice S160000x1 ![0, o] A hs) hc (ix1 r) = A (ix2 r k) := by
  subst ho
  pointwise

variable (hx : ∀ r d, V0 (Proc.devRef .tc main_arg0) (ix2 r d) = ((XX r d : ℝ) : EReal))
variable (ha : ∀ r k, V0 (Proc.devRef .tc main_arg1) (ix2 r k) = BitVec.ofNat 32 (L k r).val)
include hx ha

/-- The reference's table is the table of the specification. -/
theorem table (k j : Fin 4) : (res_main_v420 V0 : Vec Ideal S4x4 .f32) (ix2 k j) = Spec.stat (L k) XX j := by
  rw [table_eq]
  have h0 := rRow_val (res_main_v1 V0) (V0 (Proc.devRef .tc main_arg0)) (L 0) XX (fun r => (column _ 0 0 rfl _ _ r).trans (ha r 0)) hx j
  have h1 := rRow_val (res_main_v105 V0) (V0 (Proc.devRef .tc main_arg0)) (L 1) XX (fun r => (column _ 1 1 rfl _ _ r).trans (ha r 1)) hx j
  have h2 := rRow_val (res_main_v209 V0) (V0 (Proc.devRef .tc main_arg0)) (L 2) XX (fun r => (column _ 2 2 rfl _ _ r).trans (ha r 2)) hx j
  have h3 := rRow_val (res_main_v313 V0) (V0 (Proc.devRef .tc main_arg0)) (L 3) XX (fun r => (column _ 3 3 rfl _ _ r).trans (ha r 3)) hx j
  generalize rRow (F := Ideal) (res_main_v1 V0) _ = a0 at *
  generalize rRow (F := Ideal) (res_main_v105 V0) _ = a1 at *
  generalize rRow (F := Ideal) (res_main_v209 V0) _ = a2 at *
  generalize rRow (F := Ideal) (res_main_v313 V0) _ = a3 at *
  pointwise
  clear * - h0 h1 h2 h3
  obtain ⟨f, hf⟩ : ∃ f : Fin 4 → EReal, ∀ k, Spec.stat (L k) XX j = f k := ⟨_, fun _ => rfl⟩
  rw [hf] at h0 h1 h2 h3 ⊢
  clear hf
  rcases k with ⟨i, hi⟩
  interval_cases i
  · exact h0
  · exact h1
  · exact h2
  · exact h3

end Cert.ReferenceIdeal.Stat
-- ==== Proof.lean ====
/-
  The five claims together: each program runs without fault and leaves its arguments and its counters as they were; the
  idealised kernel is the kernel's own text; and at real features and labels below one hundred the idealised kernel and
  the reference compute the same array.
-/
module

public import proofs.«01_k».proof.Defs
public import proofs.«01_k».proof.Proof.Printed
public import proofs.«01_k».proof.Proof.Gen.ReferenceIdeal.Run
public import proofs.«01_k».proof.Proof.Kern.Launch
public import proofs.«01_k».proof.Proof.Math.Pre
public import proofs.«01_k».proof.Proof.Math.KTable
public import proofs.«01_k».proof.Proof.Math.RefTable
public import Idealize.ShloMosaic.Lib.Quiescent

@[expose] public section

noncomputable section

namespace Cert.Proof

open Idealize.ShloMosaic Idealize.ShloMosaic.TcCoe Idealize.SL.Sem

/-- The reference runs without fault and leaves its arguments unchanged and its counters at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Two tables with the same entries are the same. -/
theorem table_ext (e e' : FVec Ideal ⟨2, ![4, 4]⟩ .f32) (h : ∀ k j : Fin 4, e (ix2 k j) = e' (ix2 k j)) : e = e' := by
  funext i
  rw [← ix2_eta i]
  exact h _ _

/-- The reference's result array is the kernel's, when their arguments are the same. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_inputs_ok m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Value.res_main_v420 (F := Ideal) (StableHlo.launchContents m' c) : FVec Ideal ⟨2, ![4, 4]⟩ .f32)
      = Cert.KernelIdeal.Kern.trE (Cert.KernelIdeal.Kern.xs m c) (Cert.KernelIdeal.Kern.asn m c) := by
  have hf := Cert.Pre_inputs_ok.Read.features _ _ (hp c)
  have hl := Cert.Pre_inputs_ok.Read.labels _ _ (hp c)
  choose XX hXX using hf
  choose L hL using hl
  refine table_ext _ _ fun k j => ?_
  refine (Cert.ReferenceIdeal.Stat.table _ (fun k r => L r k) XX (fun r d => ?_) (fun r k => ?_) k j).trans
    (Cert.KernelIdeal.Val.table m c (fun k r => L r k) XX hXX hL k j).symm
  · exact (congrFun h0 _).trans (hXX r d)
  · exact (congrFun h1 _).trans (hL r k)

/-- The idealised kernel and the reference compute the same array. -/
theorem algebraic : Cert.algebraic_KernelIdeal_ReferenceIdeal_pre_inputs_ok := by
  intro m g m' g' hp hargs
  refine ⟨fun c => Cert.KernelIdeal.Kern.resultOf (Cert.KernelIdeal.Kern.trE (Cert.KernelIdeal.Kern.xs m c) (Cert.KernelIdeal.Kern.asn m c)),
    Cert.KernelIdeal.Kern.value m g, (θ_run Cert.ReferenceIdeal.defs _ _).mono (fun r h c => ⟨(h c).1.trans ?_, (h c).2⟩) (Cert.ReferenceIdeal.Value.run (F := Ideal) m' g')⟩
  rw [result_eq m m' hp c (hargs c).1 (hargs c).2]
  rfl

/-- Everything claimed. -/
theorem claim : Cert.Claim :=
  ⟨Cert.Kernel.Gen.facts, Cert.KernelIdeal.Gen.facts, Cert.ReferenceIdeal.Gen.facts, Cert.Pre_inputs_ok.Read.facts,
    Cert.Printed.frame,
    fun m ρ _ => Cert.KernelIdeal.Kern.frame m ρ,
    fun m ρ _ => Cert.KernelIdeal.Kern.frame m ρ,
    fun m ρ _ => reference_frame m ρ,
    fun m ρ _ => reference_frame m ρ,
    trivial,
    algebraic⟩

end Cert.Proof

end
